-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_suppress_themselves [hPre_boxes_suppress_themselves : Cert.Pre_boxes_suppress_themselves.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_suppress_themselves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_suppress_themselves [hPre_boxes_suppress_themselves : Cert.Pre_boxes_suppress_themselves.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_suppress_themselves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boxes_suppress_themselves [hKernelIdeal : Cert.KernelIdeal.Facts] [hPre_boxes_suppress_themselves : Cert.Pre_boxes_suppress_themselves.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_suppress_themselves m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boxes_suppress_themselves [hReferenceIdeal : Cert.ReferenceIdeal.Facts] [hPre_boxes_suppress_themselves : Cert.Pre_boxes_suppress_themselves.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_suppress_themselves m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_boxes_suppress_themselves [hKernelIdeal : Cert.KernelIdeal.Facts] [hReferenceIdeal : Cert.ReferenceIdeal.Facts] [hPre_boxes_suppress_themselves : Cert.Pre_boxes_suppress_themselves.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_suppress_themselves m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_boxes_suppress_themselves : Cert.Pre_boxes_suppress_themselves.Facts),
    quiescent_Kernel (hKernel := hKernel)
    ∧ quiescent_KernelIdeal (hKernelIdeal := hKernelIdeal)
    ∧ quiescent_KernelIdeal_pre_boxes_suppress_themselves (hKernelIdeal := hKernelIdeal) (hPre_boxes_suppress_themselves := hPre_boxes_suppress_themselves)
    ∧ quiescent_ReferenceIdeal (hReferenceIdeal := hReferenceIdeal)
    ∧ quiescent_ReferenceIdeal_pre_boxes_suppress_themselves (hReferenceIdeal := hReferenceIdeal) (hPre_boxes_suppress_themselves := hPre_boxes_suppress_themselves)
    ∧ preserves_Kernel_KernelIdeal
    ∧ algebraic_KernelIdeal_ReferenceIdeal_pre_boxes_suppress_themselves (hKernelIdeal := hKernelIdeal) (hReferenceIdeal := hReferenceIdeal) (hPre_boxes_suppress_themselves := hPre_boxes_suppress_themselves)
-- ==== Pre_boxes_suppress_themselves.lean ====
abbrev S10000x4 : Shape := ⟨2, ![10000, 4]⟩
abbrev S10000 : Shape := ⟨1, ![10000]⟩
abbrev S10000x1 : Shape := ⟨2, ![10000, 1]⟩
abbrev S_ : Shape := ⟨0, ![]⟩

class Facts : Prop where
  slices_S10000x4_S10000x1_0_2 : S10000x4.Slices ![0, 2] S10000x1
  shapeCasts_S10000x1_S10000 : S10000x1.ShapeCasts S10000
  slices_S10000x4_S10000x1_0_0 : S10000x4.Slices ![0, 0] S10000x1
  slices_S10000x4_S10000x1_0_3 : S10000x4.Slices ![0, 3] S10000x1
  slices_S10000x4_S10000x1_0_1 : S10000x4.Slices ![0, 1] S10000x1
  bcast_S_S10000x4 : S_.BroadcastsInDim S10000x4 (![] : Fin 0 → Fin S10000x4.rank)
  reducesTo_S10000x4_S10000_d1 : S10000x4.ReducesTo [1] S10000
  h_S_ : 0 < S_.numel
  bcast_S_S10000 : S_.BroadcastsInDim S10000 (![] : Fin 0 → Fin S10000.rank)

variable [Facts]

def fn_part2 {F : FTy → Type} [FloatOps F] (main_arg3 : FVec F S10000 .f32) (main_v26 : IVec S10000 1) (main_v31 : FVec F S10000 .f32) (main_v36 : FVec F S10000 .f32) (main_v39 : IVec S10000x4 1) (main_c_5 : IVec S_ 1) : IVec S10000 1 :=
  let main_v40 : IVec S10000 1 := (fun x v => Host.reduce IntOp.andi x v reducesTo_S10000x4_S10000_d1 h_S_) main_v39 main_c_5
  let main_cst_6 : FVec F S_ .f32 := constant S_ .f32 0x3F000000#32
  let main_v41 : FVec F S10000 .f32 := broadcastInDim S10000 ![] bcast_S_S10000 main_cst_6
  let main_v42 : IVec S10000 1 := cmpf .olt main_arg3 main_v41
  let main_cst_7 : FVec F S_ .f32 := constant S_ .f32 0x00000000#32
  let main_v43 : FVec F S10000 .f32 := broadcastInDim S10000 ![] bcast_S_S10000 main_cst_7
  let main_v44 : IVec S10000 1 := cmpf .ogt main_v31 main_v43
  let main_v45 : IVec S10000 1 := andi main_v40 main_v44
  let main_cst_8 : FVec F S_ .f32 := constant S_ .f32 0x00000000#32
  let main_v46 : FVec F S10000 .f32 := broadcastInDim S10000 ![] bcast_S_S10000 main_cst_8
  let main_v47 : IVec S10000 1 := cmpf .ogt main_v36 main_v46
  let main_v48 : IVec S10000 1 := andi main_v45 main_v47
  let main_v49 : FVec F S10000 .f32 := mulf main_v31 main_v36
  let main_cst_9 : FVec F S_ .f32 := constant S_ .f32 0x358637BD#32
  let main_v50 : FVec F S10000 .f32 := broadcastInDim S10000 ![] bcast_S_S10000 main_cst_9
  let main_v51 : IVec S10000 1 := cmpf .oge main_v49 main_v50
  let main_v52 : IVec S10000 1 := andi main_v48 main_v51
  let main_v53 : IVec S10000 1 := ori main_v42 main_v52
  let main_v54 : IVec S10000 1 := andi main_v26 main_v53
  main_v54

def fn_part1 {F : FTy → Type} [FloatOps F] (main_arg2 : FVec F S10000x4 .f32) (main_arg3 : FVec F S10000 .f32) (main_v4 : FVec F S10000 .f32) (main_v9 : FVec F S10000 .f32) (main_v15 : IVec S10000 1) (main_v18 : IVec S10000 1) (main_cst_2 : FVec F S_ .f32) : IVec S10000 1 :=
  let main_v19 : FVec F S10000 .f32 := broadcastInDim S10000 ![] bcast_S_S10000 main_cst_2
  let main_v20 : IVec S10000 1 := cmpf .ogt main_v9 main_v19
  let main_v21 : IVec S10000 1 := andi main_v18 main_v20
  let main_v22 : FVec F S10000 .f32 := mulf main_v4 main_v9
  let main_cst_3 : FVec F S_ .f32 := constant S_ .f32 0x358637BD#32
  let main_v23 : FVec F S10000 .f32 := broadcastInDim S10000 ![] bcast_S_S10000 main_cst_3
  let main_v24 : IVec S10000 1 := cmpf .oge main_v22 main_v23
  let main_v25 : IVec S10000 1 := andi main_v21 main_v24
  let main_v26 : IVec S10000 1 := ori main_v15 main_v25
  let main_v27 : FVec F S10000x1 .f32 := (extractStridedSlice S10000x1 ![0, 2] · slices_S10000x4_S10000x1_0_2) main_arg2
  let main_v28 : FVec F S10000 .f32 := shapeCast S10000 main_v27 shapeCasts_S10000x1_S10000
  let main_v29 : FVec F S10000x1 .f32 := (extractStridedSlice S10000x1 ![0, 0] · slices_S10000x4_S10000x1_0_0) main_arg2
  let main_v30 : FVec F S10000 .f32 := shapeCast S10000 main_v29 shapeCasts_S10000x1_S10000
  let main_v31 : FVec F S10000 .f32 := subf main_v28 main_v30
  let main_v32 : FVec F S10000x1 .f32 := (extractStridedSlice S10000x1 ![0, 3] · slices_S10000x4_S10000x1_0_3) main_arg2
  let main_v33 : FVec F S10000 .f32 := shapeCast S10000 main_v32 shapeCasts_S10000x1_S10000
  let main_v34 : FVec F S10000x1 .f32 := (extractStridedSlice S10000x1 ![0, 1] · slices_S10000x4_S10000x1_0_1) main_arg2
  let main_v35 : FVec F S10000 .f32 := shapeCast S10000 main_v34 shapeCasts_S10000x1_S10000
  let main_v36 : FVec F S10000 .f32 := subf main_v33 main_v35
  let main_v37 : FVec F S10000x4 .f32 := Host.absf main_arg2
  let main_cst_4 : FVec F S_ .f32 := constant S_ .f32 0x7149F2CA#32
  let main_v38 : FVec F S10000x4 .f32 := broadcastInDim S10000x4 ![] bcast_S_S10000x4 main_cst_4
  let main_v39 : IVec S10000x4 1 := cmpf .ole main_v37 main_v38
  let main_c_5 : IVec S_ 1 := constantI S_ 1 1#1
  fn_part2 (F := F) main_arg3 main_v26 main_v31 main_v36 main_v39 main_c_5

def fn {F : FTy → Type} [FloatOps F] (main_arg0 : FVec F S10000x4 .f32) (main_arg1 : FVec F S10000 .f32) (main_arg2 : FVec F S10000x4 .f32) (main_arg3 : FVec F S10000 .f32) : IVec S10000 1 :=
  let main_v0 : FVec F S10000x1 .f32 := (extractStridedSlice S10000x1 ![0, 2] · slices_S10000x4_S10000x1_0_2) main_arg0
  let main_v1 : FVec F S10000 .f32 := shapeCast S10000 main_v0 shapeCasts_S10000x1_S10000
  let main_v2 : FVec F S10000x1 .f32 := (extractStridedSlice S10000x1 ![0, 0] · slices_S10000x4_S10000x1_0_0) main_arg0
  let main_v3 : FVec F S10000 .f32 := shapeCast S10000 main_v2 shapeCasts_S10000x1_S10000
  let main_v4 : FVec F S10000 .f32 := subf main_v1 main_v3
  let main_v5 : FVec F S10000x1 .f32 := (extractStridedSlice S10000x1 ![0, 3] · slices_S10000x4_S10000x1_0_3) main_arg0
  let main_v6 : FVec F S10000 .f32 := shapeCast S10000 main_v5 shapeCasts_S10000x1_S10000
  let main_v7 : FVec F S10000x1 .f32 := (extractStridedSlice S10000x1 ![0, 1] · slices_S10000x4_S10000x1_0_1) main_arg0
  let main_v8 : FVec F S10000 .f32 := shapeCast S10000 main_v7 shapeCasts_S10000x1_S10000
  let main_v9 : FVec F S10000 .f32 := subf main_v6 main_v8
  let main_v10 : FVec F S10000x4 .f32 := Host.absf main_arg0
  let main_cst : FVec F S_ .f32 := constant S_ .f32 0x7149F2CA#32
  let main_v11 : FVec F S10000x4 .f32 := broadcastInDim S10000x4 ![] bcast_S_S10000x4 main_cst
  let main_v12 : IVec S10000x4 1 := cmpf .ole main_v10 main_v11
  let main_c : IVec S_ 1 := constantI S_ 1 1#1
  let main_v13 : IVec S10000 1 := (fun x v => Host.reduce IntOp.andi x v reducesTo_S10000x4_S10000_d1 h_S_) main_v12 main_c
  let main_cst_0 : FVec F S_ .f32 := constant S_ .f32 0x3F000000#32
  let main_v14 : FVec F S10000 .f32 := broadcastInDim S10000 ![] bcast_S_S10000 main_cst_0
  let main_v15 : IVec S10000 1 := cmpf .olt main_arg1 main_v14
  let main_cst_1 : FVec F S_ .f32 := constant S_ .f32 0x00000000#32
  let main_v16 : FVec F S10000 .f32 := broadcastInDim S10000 ![] bcast_S_S10000 main_cst_1
  let main_v17 : IVec S10000 1 := cmpf .ogt main_v4 main_v16
  let main_v18 : IVec S10000 1 := andi main_v13 main_v17
  let main_cst_2 : FVec F S_ .f32 := constant S_ .f32 0x00000000#32
  fn_part1 (F := F) main_arg2 main_arg3 main_v4 main_v9 main_v15 main_v18 main_cst_2
-- ==== Kernel.lean ====
abbrev S10000x4 : Shape := ⟨2, ![10000, 4]⟩
abbrev S10000 : Shape := ⟨1, ![10000]⟩
abbrev S20000x4 : Shape := ⟨2, ![20000, 4]⟩
abbrev S20000 : Shape := ⟨1, ![20000]⟩
abbrev S_ : Shape := ⟨0, ![]⟩
abbrev S20480x4 : Shape := ⟨2, ![20480, 4]⟩
abbrev S20480 : Shape := ⟨1, ![20480]⟩
abbrev S20480x1 : Shape := ⟨2, ![20480, 1]⟩
abbrev S160x128 : Shape := ⟨2, ![160, 128]⟩
abbrev S1000x8 : Shape := ⟨2, ![1000, 8]⟩
abbrev S1024 : Shape := ⟨1, ![1024]⟩
abbrev S8x128 : Shape := ⟨2, ![8, 128]⟩
abbrev S1x8 : Shape := ⟨2, ![1, 8]⟩
abbrev S1x8x128 : Shape := ⟨3, ![1, 8, 128]⟩
abbrev S1 : Shape := ⟨1, ![1]⟩
abbrev S1x1x1 : Shape := ⟨3, ![1, 1, 1]⟩
abbrev S1000x6 : Shape := ⟨2, ![1000, 6]⟩

abbrev nBuf : Space → Nat
  | .hbm => 34
  | .vmem => 6
  | .smem => 5
  | _ => 0

abbrev bufTy : (tb : Table) → Fin (tcTables nBuf tb) → BufTy
  | .hbm, ⟨0, _⟩ => ⟨S10000x4, .f32⟩
  | .hbm, ⟨1, _⟩ => ⟨S10000, .f32⟩
  | .hbm, ⟨2, _⟩ => ⟨S10000x4, .f32⟩
  | .hbm, ⟨3, _⟩ => ⟨S10000, .f32⟩
  | .hbm, ⟨4, _⟩ => ⟨S20000x4, .f32⟩
  | .hbm, ⟨5, _⟩ => ⟨S20000, .f32⟩
  | .hbm, ⟨6, _⟩ => ⟨S_, .i32⟩
  | .hbm, ⟨7, _⟩ => ⟨S_, .f32⟩
  | .hbm, ⟨8, _⟩ => ⟨S20480x4, .f32⟩
  | .hbm, ⟨9, _⟩ => ⟨S_, .f32⟩
  | .hbm, ⟨10, _⟩ => ⟨S_, .f32⟩
  | .hbm, ⟨11, _⟩ => ⟨S20480, .f32⟩
  | .hbm, ⟨12, _⟩ => ⟨S20480, .f32⟩
  | .hbm, ⟨13, _⟩ => ⟨S20480x1, .f32⟩
  | .hbm, ⟨14, _⟩ => ⟨S20480, .f32⟩
  | .hbm, ⟨15, _⟩ => ⟨S20480x1, .f32⟩
  | .hbm, ⟨16, _⟩ => ⟨S20480, .f32⟩
  | .hbm, ⟨17, _⟩ => ⟨S20480x1, .f32⟩
  | .hbm, ⟨18, _⟩ => ⟨S20480, .f32⟩
  | .hbm, ⟨19, _⟩ => ⟨S20480x1, .f32⟩
  | .hbm, ⟨20, _⟩ => ⟨S20480, .f32⟩
  | .hbm, ⟨21, _⟩ => ⟨S20480, .f32⟩
  | .hbm, ⟨22, _⟩ => ⟨S20480, .f32⟩
  | .hbm, ⟨23, _⟩ => ⟨S20480, .f32⟩
  | .hbm, ⟨24, _⟩ => ⟨S20480, .f32⟩
  | .hbm, ⟨25, _⟩ => ⟨S20480, .f32⟩
  | .hbm, ⟨26, _⟩ => ⟨S20480, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S160x128, .f32⟩
  | .hbm, ⟨31, _⟩ => ⟨S160x128, .f32⟩
  | .hbm, ⟨32, _⟩ => ⟨S1000x8, .f32⟩
  | .hbm, ⟨33, _⟩ => ⟨S1000x6, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S1000x8, .f32⟩
  | .local _ .smem, ⟨0, _⟩ => ⟨S1024, .f32⟩
  | .local _ .smem, ⟨1, _⟩ => ⟨S1024, .f32⟩
  | .local _ .smem, ⟨2, _⟩ => ⟨S1024, .f32⟩
  | .local _ .smem, ⟨3, _⟩ => ⟨S1024, .f32⟩
  | .local _ .smem, ⟨4, _⟩ => ⟨S1024, .f32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩
abbrev cc0_scratch4 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (arg11 : BitVec 32) : Fin 2 → Nat :=
  let c8_i32 : BitVec 32 := 8#32
  let v9 : BitVec 32 := Scalar.muli arg11 c8_i32
  let v10 : Index := Scalar.indexCast v9
  let c0_2 : Index := 0#32
  ![v10.toNat, 0]

def k0_chk1 (arg11 : BitVec 32) : Prop :=
  (∀ a, (k0_off1 arg11) a + S8x128.size a ≤ S160x128.size a)
theorem k0_off1_inb : ∀ (arg11 : BitVec 32) (k0_hw1 : k0_chk1 arg11), ∀ a, (k0_off1 arg11) a + S8x128.size a ≤ S160x128.size a := fun arg11 k0_hw1 => k0_hw1

def k0_off2 (arg11 : BitVec 32) : Fin 2 → Nat :=
  let c8_i32_7 : BitVec 32 := 8#32
  let v27 : BitVec 32 := Scalar.muli arg11 c8_i32_7
  let v28 : Index := Scalar.indexCast v27
  let c0_8 : Index := 0#32
  ![v28.toNat, 0]
def k0_cond1 (v17 : BitVec 1) : BitVec 1 :=
  let v18 : BitVec 32 := Scalar.extui v17
  let c0_i32_5 : BitVec 32 := 0#32
  let v19 : BitVec 1 := Scalar.cmpi .ne v18 c0_i32_5
  v19

@[reducible] def k0_t1_loop (arg12 : BitVec 32) : Scf.Loop 32 :=
  let c0_i32_14 : BitVec 32 := 0#32
  let v47 : BitVec 32 := Scalar.subi arg12 c0_i32_14
  let c1_i32_15 : BitVec 32 := 1#32
  let v49 : BitVec 32 := Scalar.divsi v47 c1_i32_15
  let v50 : BitVec 32 := Scalar.muli v49 c1_i32_15
  let v51 : BitVec 32 := Scalar.addi c0_i32_14 v50
  let c1_i32_16 : BitVec 32 := 1#32
  ⟨c0_i32_14, v51, c1_i32_16⟩
def k0_off3 (arg12 : BitVec 32) (k0_t1 : Fin (k0_t1_loop arg12).trips) : Fin 1 → Nat :=
  let c0_i32_14 : BitVec 32 := 0#32
  let c1_i32_16 : BitVec 32 := 1#32
  let arg14 : BitVec 32 := Scf.iv c0_i32_14 c1_i32_16 k0_t1
  let v60 : Index := Scalar.indexCast arg14
  ![v60.toNat]
@[reducible] def k0_t2_loop (arg12 : BitVec 32) : Scf.Loop 32 :=
  let c0_i32_14 : BitVec 32 := 0#32
  let v47 : BitVec 32 := Scalar.subi arg12 c0_i32_14
  let c1_i32_15 : BitVec 32 := 1#32
  let v49 : BitVec 32 := Scalar.divsi v47 c1_i32_15
  let v50 : BitVec 32 := Scalar.muli v49 c1_i32_15
  let v51 : BitVec 32 := Scalar.addi c0_i32_14 v50
  let v48 : BitVec 32 := Scalar.addi c0_i32_14 v47
  let c1_i32_17 : BitVec 32 := 1#32
  ⟨v51, v48, c1_i32_17⟩
def k0_off4 (arg12 : BitVec 32) (k0_t2 : Fin (k0_t2_loop arg12).trips) : Fin 1 → Nat :=
  let c0_i32_14 : BitVec 32 := 0#32
  let v47 : BitVec 32 := Scalar.subi arg12 c0_i32_14
  let c1_i32_15 : BitVec 32 := 1#32
  let v49 : BitVec 32 := Scalar.divsi v47 c1_i32_15
  let v50 : BitVec 32 := Scalar.muli v49 c1_i32_15
  let v51 : BitVec 32 := Scalar.addi c0_i32_14 v50
  let c1_i32_17 : BitVec 32 := 1#32
  let arg14 : BitVec 32 := Scf.iv v51 c1_i32_17 k0_t2
  let v60 : Index := Scalar.indexCast arg14
  ![v60.toNat]

def k0_chk2 (arg11 : BitVec 32) (arg12 : BitVec 32) (v17 : BitVec 1) : Prop :=
  (∀ (k0_h1 : k0_cond1 v17 = 1#1), ∀ a, (k0_off2 arg11) a + S8x128.size a ≤ S160x128.size a) ∧
  (∀ (k0_h1 : k0_cond1 v17 = 1#1), (k0_t1_loop arg12).OK) ∧
  (∀ k0_t1 : Fin (k0_t1_loop arg12).trips, ∀ (k0_h1 : k0_cond1 v17 = 1#1), ∀ a, (k0_off3 arg12 k0_t1) a + S1.size a ≤ S1024.size a) ∧
  (∀ (k0_h1 : k0_cond1 v17 = 1#1), (k0_t2_loop arg12).OK) ∧
  (∀ k0_t2 : Fin (k0_t2_loop arg12).trips, ∀ (k0_h1 : k0_cond1 v17 = 1#1), ∀ a, (k0_off4 arg12 k0_t2) a + S1.size a ≤ S1024.size a)
theorem k0_off2_inb : ∀ (arg11 : BitVec 32) (arg12 : BitVec 32) (v17 : BitVec 1) (k0_hw2 : k0_chk2 arg11 arg12 v17), ∀ (k0_h1 : k0_cond1 v17 = 1#1), ∀ a, (k0_off2 arg11) a + S8x128.size a ≤ S160x128.size a := fun arg11 arg12 v17 k0_hw2 k0_h1 => k0_hw2.1 k0_h1
theorem k0_t1_ok : ∀ (arg11 : BitVec 32) (arg12 : BitVec 32) (v17 : BitVec 1) (k0_hw2 : k0_chk2 arg11 arg12 v17), ∀ (k0_h1 : k0_cond1 v17 = 1#1), (k0_t1_loop arg12).OK := fun arg11 arg12 v17 k0_hw2 k0_h1 => k0_hw2.2.1 k0_h1
theorem k0_off3_inb : ∀ (arg11 : BitVec 32) (arg12 : BitVec 32) (v17 : BitVec 1) (k0_hw2 : k0_chk2 arg11 arg12 v17) (k0_t1 : Fin (k0_t1_loop arg12).trips), ∀ (k0_h1 : k0_cond1 v17 = 1#1), ∀ a, (k0_off3 arg12 k0_t1) a + S1.size a ≤ S1024.size a := fun arg11 arg12 v17 k0_hw2 k0_t1 k0_h1 => k0_hw2.2.2.1 k0_t1 k0_h1
theorem k0_t2_ok : ∀ (arg11 : BitVec 32) (arg12 : BitVec 32) (v17 : BitVec 1) (k0_hw2 : k0_chk2 arg11 arg12 v17), ∀ (k0_h1 : k0_cond1 v17 = 1#1), (k0_t2_loop arg12).OK := fun arg11 arg12 v17 k0_hw2 k0_h1 => k0_hw2.2.2.2.1 k0_h1
theorem k0_off4_inb : ∀ (arg11 : BitVec 32) (arg12 : BitVec 32) (v17 : BitVec 1) (k0_hw2 : k0_chk2 arg11 arg12 v17) (k0_t2 : Fin (k0_t2_loop arg12).trips), ∀ (k0_h1 : k0_cond1 v17 = 1#1), ∀ a, (k0_off4 arg12 k0_t2) a + S1.size a ≤ S1024.size a := fun arg11 arg12 v17 k0_hw2 k0_t2 k0_h1 => k0_hw2.2.2.2.2 k0_t2 k0_h1

def k0_off5 (arg14 : BitVec 32) : Fin 1 → Nat :=
  let v128 : Index := Scalar.indexCast arg14
  ![v128.toNat]

def k0_off6 (arg14 : BitVec 32) : Fin 2 → Nat :=
  let v168 : Index := Scalar.indexCast arg14
  let c0_44 : Index := 0#32
  ![v168.toNat, 0]

def k0_chk3 (v17 : BitVec 1) (arg14 : BitVec 32) : Prop :=
  (∀ (k0_h1 : k0_cond1 v17 = 1#1), ∀ a, (k0_off5 arg14) a + S1.size a ≤ S1024.size a) ∧
  (∀ (k0_h1 : k0_cond1 v17 = 1#1), ∀ a, (k0_off6 arg14) a + S1x8.size a ≤ S1000x8.size a)
theorem k0_off5_inb : ∀ (v17 : BitVec 1) (arg14 : BitVec 32) (k0_hw3 : k0_chk3 v17 arg14), ∀ (k0_h1 : k0_cond1 v17 = 1#1), ∀ a, (k0_off5 arg14) a + S1.size a ≤ S1024.size a := fun v17 arg14 k0_hw3 k0_h1 => k0_hw3.1 k0_h1
theorem k0_off6_inb : ∀ (v17 : BitVec 1) (arg14 : BitVec 32) (k0_hw3 : k0_chk3 v17 arg14), ∀ (k0_h1 : k0_cond1 v17 = 1#1), ∀ a, (k0_off6 arg14) a + S1x8.size a ≤ S1000x8.size a := fun v17 arg14 k0_hw3 k0_h1 => k0_hw3.2 k0_h1

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1000x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S10000x4 : Shape := ⟨2, ![10000, 4]⟩
abbrev S10000 : Shape := ⟨1, ![10000]⟩
abbrev S20000x4 : Shape := ⟨2, ![20000, 4]⟩
abbrev S20000 : Shape := ⟨1, ![20000]⟩
abbrev S_ : Shape := ⟨0, ![]⟩
abbrev S1000 : Shape := ⟨1, ![1000]⟩
abbrev S1000x4 : Shape := ⟨2, ![1000, 4]⟩
abbrev S1 : Shape := ⟨1, ![1]⟩
abbrev S1x4 : Shape := ⟨2, ![1, 4]⟩
abbrev S4 : Shape := ⟨1, ![4]⟩
abbrev S20000x1 : Shape := ⟨2, ![20000, 1]⟩
abbrev S1000x1 : Shape := ⟨2, ![1000, 1]⟩
abbrev S1000x6 : Shape := ⟨2, ![1000, 6]⟩

abbrev nBuf : Space → Nat
  | .hbm => 163
  | .vmem => 0
  | .smem => 0
  | _ => 0

abbrev hbmTy0_0 (i : Nat) : BufTy := match i % 128 with
  | 0 => ⟨S10000x4, .f32⟩
  | 1 => ⟨S10000, .f32⟩
  | 2 => ⟨S10000x4, .f32⟩
  | 3 => ⟨S10000, .f32⟩
  | 4 => ⟨S20000x4, .f32⟩
  | 5 => ⟨S20000, .f32⟩
  | 6 => ⟨S20000, .i32⟩
  | 7 => ⟨S_, .f32⟩
  | 8 => ⟨S1000, .f32⟩
  | 9 => ⟨S_, .f32⟩
  | 10 => ⟨S1000x4, .f32⟩
  | 11 => ⟨S_, .i32⟩
  | 12 => ⟨S20000x4, .f32⟩
  | 13 => ⟨S20000, .i32⟩
  | 14 => ⟨S_, .i32⟩
  | 15 => ⟨S20000, .f32⟩
  | 16 => ⟨S1000, .f32⟩
  | 17 => ⟨S1000x4, .f32⟩
  | 18 => ⟨S_, .i32⟩
  | 19 => ⟨S_, .i1⟩
  | 20 => ⟨S20000, .i32⟩
  | 21 => ⟨S_, .f32⟩
  | 22 => ⟨S_, .i32⟩
  | 23 => ⟨S_, .f32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S1, .f32⟩
  | 31 => ⟨S_, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x4, .f32⟩
  | 46 => ⟨S4, .f32⟩
  | 47 => ⟨S1, .f32⟩
  | 48 => ⟨S_, .f32⟩
  | 49 => ⟨S20000x1, .f32⟩
  | 50 => ⟨S20000, .f32⟩
  | 51 => ⟨S20000, .f32⟩
  | 52 => ⟨S20000, .f32⟩
  | 53 => ⟨S1, .f32⟩
  | 54 => ⟨S_, .f32⟩
  | 55 => ⟨S20000x1, .f32⟩
  | 56 => ⟨S20000, .f32⟩
  | 57 => ⟨S20000, .f32⟩
  | 58 => ⟨S20000, .f32⟩
  | 59 => ⟨S1, .f32⟩
  | 60 => ⟨S_, .f32⟩
  | 61 => ⟨S20000x1, .f32⟩
  | 62 => ⟨S20000, .f32⟩
  | 63 => ⟨S20000, .f32⟩
  | 64 => ⟨S20000, .f32⟩
  | 65 => ⟨S1, .f32⟩
  | 66 => ⟨S_, .f32⟩
  | 67 => ⟨S20000x1, .f32⟩
  | 68 => ⟨S20000, .f32⟩
  | 69 => ⟨S20000, .f32⟩
  | 70 => ⟨S20000, .f32⟩
  | 71 => ⟨S20000, .f32⟩
  | 72 => ⟨S_, .f32⟩
  | 73 => ⟨S_, .f32⟩
  | 74 => ⟨S20000, .f32⟩
  | 75 => ⟨S20000, .f32⟩
  | 76 => ⟨S20000, .f32⟩
  | 77 => ⟨S_, .f32⟩
  | 78 => ⟨S_, .f32⟩
  | 79 => ⟨S20000, .f32⟩
  | 80 => ⟨S20000, .f32⟩
  | 81 => ⟨S20000, .f32⟩
  | 82 => ⟨S1, .f32⟩
  | 83 => ⟨S_, .f32⟩
  | 84 => ⟨S1, .f32⟩
  | 85 => ⟨S_, .f32⟩
  | 86 => ⟨S_, .f32⟩
  | 87 => ⟨S1, .f32⟩
  | 88 => ⟨S_, .f32⟩
  | 89 => ⟨S1, .f32⟩
  | 90 => ⟨S_, .f32⟩
  | 91 => ⟨S_, .f32⟩
  | 92 => ⟨S_, .f32⟩
  | 93 => ⟨S20000x1, .f32⟩
  | 94 => ⟨S20000, .f32⟩
  | 95 => ⟨S20000x1, .f32⟩
  | 96 => ⟨S20000, .f32⟩
  | 97 => ⟨S20000, .f32⟩
  | 98 => ⟨S20000x1, .f32⟩
  | 99 => ⟨S20000, .f32⟩
  | 100 => ⟨S20000x1, .f32⟩
  | 101 => ⟨S20000, .f32⟩
  | 102 => ⟨S20000, .f32⟩
  | 103 => ⟨S20000, .f32⟩
  | 104 => ⟨S20000, .f32⟩
  | 105 => ⟨S20000, .f32⟩
  | 106 => ⟨S20000, .f32⟩
  | 107 => ⟨S_, .f32⟩
  | 108 => ⟨S20000, .f32⟩
  | 109 => ⟨S20000, .f32⟩
  | 110 => ⟨S20000, .f32⟩
  | 111 => ⟨S_, .f32⟩
  | 112 => ⟨S20000, .f32⟩
  | 113 => ⟨S20000, .i1⟩
  | 114 => ⟨S20000, .i32⟩
  | 115 => ⟨S20000, .i1⟩
  | 116 => ⟨S20000, .i1⟩
  | 117 => ⟨S_, .f32⟩
  | 118 => ⟨S_, .f32⟩
  | 119 => ⟨S20000, .f32⟩
  | 120 => ⟨S20000, .f32⟩
  | 121 => ⟨S1, .f32⟩
  | 122 => ⟨S1000, .f32⟩
  | 123 => ⟨S1x4, .f32⟩
  | 124 => ⟨S_, .i32⟩
  | 125 => ⟨S1000x4, .f32⟩
  | 126 => ⟨S_, .i32⟩
  | 127 => ⟨S_, .i32⟩
  | _ => ⟨S10000x4, .f32⟩

abbrev hbmTy0_1 (i : Nat) : BufTy := match i % 128 with
  | 0 => ⟨S_, .f32⟩
  | 1 => ⟨S1000, .f32⟩
  | 2 => ⟨S1000, .i1⟩
  | 3 => ⟨S_, .f32⟩
  | 4 => ⟨S1000, .f32⟩
  | 5 => ⟨S1000, .i1⟩
  | 6 => ⟨S1000x1, .f32⟩
  | 7 => ⟨S1000, .f32⟩
  | 8 => ⟨S1000x1, .f32⟩
  | 9 => ⟨S1000, .f32⟩
  | 10 => ⟨S1000, .f32⟩
  | 11 => ⟨S_, .f32⟩
  | 12 => ⟨S1000, .f32⟩
  | 13 => ⟨S1000, .i1⟩
  | 14 => ⟨S1000x1, .f32⟩
  | 15 => ⟨S1000, .f32⟩
  | 16 => ⟨S1000x1, .f32⟩
  | 17 => ⟨S1000, .f32⟩
  | 18 => ⟨S1000, .f32⟩
  | 19 => ⟨S_, .f32⟩
  | 20 => ⟨S1000, .f32⟩
  | 21 => ⟨S1000, .i1⟩
  | 22 => ⟨S1000, .i1⟩
  | 23 => ⟨S1000, .i1⟩
  | 24 => ⟨S1000, .i1⟩
  | 25 => ⟨S_, .f32⟩
  | 26 => ⟨S1000x1, .f32⟩
  | 27 => ⟨S1000x1, .f32⟩
  | 28 => ⟨S1000x6, .f32⟩
  | 29 => ⟨S1000x1, .i1⟩
  | 30 => ⟨S_, .f32⟩
  | 31 => ⟨S_, .f32⟩
  | 32 => ⟨S1000x6, .i1⟩
  | 33 => ⟨S1000x6, .f32⟩
  | 34 => ⟨S1000x6, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_12 : Ref sig .tc := ⟨.hbm, 18, rfl⟩
abbrev main_while0c_v32 : Ref sig .tc := ⟨.hbm, 19, rfl⟩
abbrev main_while0b_call0_v0 : Ref sig .tc := ⟨.hbm, 20, rfl⟩
abbrev main_while0b_call0_cst : Ref sig .tc := ⟨.hbm, 21, rfl⟩
abbrev main_while0b_call0_c : Ref sig .tc := ⟨.hbm, 22, rfl⟩
abbrev main_while0b_call0_v1_0 : Ref sig .tc := ⟨.hbm, 23, rfl⟩
abbrev main_while0b_v32 : Ref sig .tc := ⟨.hbm, 24, rfl⟩
abbrev main_while0b_c_12 : Ref sig .tc := ⟨.hbm, 25, rfl⟩
abbrev main_while0b_v33 : Ref sig .tc := ⟨.hbm, 26, rfl⟩
abbrev main_while0b_c_13 : Ref sig .tc := ⟨.hbm, 27, rfl⟩
abbrev main_while0b_v34 : Ref sig .tc := ⟨.hbm, 28, rfl⟩
abbrev main_while0b_v35 : Ref sig .tc := ⟨.hbm, 29, rfl⟩
abbrev main_while0b_v36 : Ref sig .tc := ⟨.hbm, 30, rfl⟩
abbrev main_while0b_v37 : Ref sig .tc := ⟨.hbm, 31, rfl⟩
abbrev main_while0b_c_14 : Ref sig .tc := ⟨.hbm, 32, rfl⟩
abbrev main_while0b_v38 : Ref sig .tc := ⟨.hbm, 33, rfl⟩
abbrev main_while0b_c_15 : Ref sig .tc := ⟨.hbm, 34, rfl⟩
abbrev main_while0b_v39 : Ref sig .tc := ⟨.hbm, 35, rfl⟩
abbrev main_while0b_v40 : Ref sig .tc := ⟨.hbm, 36, rfl⟩
abbrev main_while0b_c_16 : Ref sig .tc := ⟨.hbm, 37, rfl⟩
abbrev main_while0b_c_17 : Ref sig .tc := ⟨.hbm, 38, rfl⟩
abbrev main_while0b_v41 : Ref sig .tc := ⟨.hbm, 39, rfl⟩
abbrev main_while0b_c_18 : Ref sig .tc := ⟨.hbm, 40, rfl⟩
abbrev main_while0b_c_19 : Ref sig .tc := ⟨.hbm, 41, rfl⟩
abbrev main_while0b_v42 : Ref sig .tc := ⟨.hbm, 42, rfl⟩
abbrev main_while0b_c_20 : Ref sig .tc := ⟨.hbm, 43, rfl⟩
abbrev main_while0b_v43 : Ref sig .tc := ⟨.hbm, 44, rfl⟩
abbrev main_while0b_v44 : Ref sig .tc := ⟨.hbm, 45, rfl⟩
abbrev main_while0b_v45 : Ref sig .tc := ⟨.hbm, 46, rfl⟩
abbrev main_while0b_v46 : Ref sig .tc := ⟨.hbm, 47, rfl⟩
abbrev main_while0b_v47 : Ref sig .tc := ⟨.hbm, 48, rfl⟩
abbrev main_while0b_v48 : Ref sig .tc := ⟨.hbm, 49, rfl⟩
abbrev main_while0b_v49 : Ref sig .tc := ⟨.hbm, 50, rfl⟩
abbrev main_while0b_v50 : Ref sig .tc := ⟨.hbm, 51, rfl⟩
abbrev main_while0b_v51 : Ref sig .tc := ⟨.hbm, 52, rfl⟩
abbrev main_while0b_v52 : Ref sig .tc := ⟨.hbm, 53, rfl⟩
abbrev main_while0b_v53 : Ref sig .tc := ⟨.hbm, 54, rfl⟩
abbrev main_while0b_v54 : Ref sig .tc := ⟨.hbm, 55, rfl⟩
abbrev main_while0b_v55 : Ref sig .tc := ⟨.hbm, 56, rfl⟩
abbrev main_while0b_v56 : Ref sig .tc := ⟨.hbm, 57, rfl⟩
abbrev main_while0b_v57 : Ref sig .tc := ⟨.hbm, 58, rfl⟩
abbrev main_while0b_v58 : Ref sig .tc := ⟨.hbm, 59, rfl⟩
abbrev main_while0b_v59 : Ref sig .tc := ⟨.hbm, 60, rfl⟩
abbrev main_while0b_v60 : Ref sig .tc := ⟨.hbm, 61, rfl⟩
abbrev main_while0b_v61 : Ref sig .tc := ⟨.hbm, 62, rfl⟩
abbrev main_while0b_v62 : Ref sig .tc := ⟨.hbm, 63, rfl⟩
abbrev main_while0b_v63 : Ref sig .tc := ⟨.hbm, 64, rfl⟩
abbrev main_while0b_v64 : Ref sig .tc := ⟨.hbm, 65, rfl⟩
abbrev main_while0b_v65 : Ref sig .tc := ⟨.hbm, 66, rfl⟩
abbrev main_while0b_v66 : Ref sig .tc := ⟨.hbm, 67, rfl⟩
abbrev main_while0b_v67 : Ref sig .tc := ⟨.hbm, 68, rfl⟩
abbrev main_while0b_v68 : Ref sig .tc := ⟨.hbm, 69, rfl⟩
abbrev main_while0b_v69 : Ref sig .tc := ⟨.hbm, 70, rfl⟩
abbrev main_while0b_v70 : Ref sig .tc := ⟨.hbm, 71, rfl⟩
abbrev main_while0b_cst_21 : Ref sig .tc := ⟨.hbm, 72, rfl⟩
abbrev main_while0b_call1_v0 : Ref sig .tc := ⟨.hbm, 73, rfl⟩
abbrev main_while0b_call1_v1 : Ref sig .tc := ⟨.hbm, 74, rfl⟩
abbrev main_while0b_v71 : Ref sig .tc := ⟨.hbm, 75, rfl⟩
abbrev main_while0b_v72 : Ref sig .tc := ⟨.hbm, 76, rfl⟩
abbrev main_while0b_cst_22 : Ref sig .tc := ⟨.hbm, 77, rfl⟩
abbrev main_while0b_call2_v0 : Ref sig .tc := ⟨.hbm, 78, rfl⟩
abbrev main_while0b_call2_v1 : Ref sig .tc := ⟨.hbm, 79, rfl⟩
abbrev main_while0b_v73 : Ref sig .tc := ⟨.hbm, 80, rfl⟩
abbrev main_while0b_v74 : Ref sig .tc := ⟨.hbm, 81, rfl⟩
abbrev main_while0b_v75 : Ref sig .tc := ⟨.hbm, 82, rfl⟩
abbrev main_while0b_v76 : Ref sig .tc := ⟨.hbm, 83, rfl⟩
abbrev main_while0b_v77 : Ref sig .tc := ⟨.hbm, 84, rfl⟩
abbrev main_while0b_v78 : Ref sig .tc := ⟨.hbm, 85, rfl⟩
abbrev main_while0b_v79 : Ref sig .tc := ⟨.hbm, 86, rfl⟩
abbrev main_while0b_v80 : Ref sig .tc := ⟨.hbm, 87, rfl⟩
abbrev main_while0b_v81 : Ref sig .tc := ⟨.hbm, 88, rfl⟩
abbrev main_while0b_v82 : Ref sig .tc := ⟨.hbm, 89, rfl⟩
abbrev main_while0b_v83 : Ref sig .tc := ⟨.hbm, 90, rfl⟩
abbrev main_while0b_v84 : Ref sig .tc := ⟨.hbm, 91, rfl⟩
abbrev main_while0b_v85 : Ref sig .tc := ⟨.hbm, 92, rfl⟩
abbrev main_while0b_v86 : Ref sig .tc := ⟨.hbm, 93, rfl⟩
abbrev main_while0b_v87 : Ref sig .tc := ⟨.hbm, 94, rfl⟩
abbrev main_while0b_v88 : Ref sig .tc := ⟨.hbm, 95, rfl⟩
abbrev main_while0b_v89 : Ref sig .tc := ⟨.hbm, 96, rfl⟩
abbrev main_while0b_v90 : Ref sig .tc := ⟨.hbm, 97, rfl⟩
abbrev main_while0b_v91 : Ref sig .tc := ⟨.hbm, 98, rfl⟩
abbrev main_while0b_v92 : Ref sig .tc := ⟨.hbm, 99, rfl⟩
abbrev main_while0b_v93 : Ref sig .tc := ⟨.hbm, 100, rfl⟩
abbrev main_while0b_v94 : Ref sig .tc := ⟨.hbm, 101, rfl⟩
abbrev main_while0b_v95 : Ref sig .tc := ⟨.hbm, 102, rfl⟩
abbrev main_while0b_v96 : Ref sig .tc := ⟨.hbm, 103, rfl⟩
abbrev main_while0b_v97 : Ref sig .tc := ⟨.hbm, 104, rfl⟩
abbrev main_while0b_v98 : Ref sig .tc := ⟨.hbm, 105, rfl⟩
abbrev main_while0b_v99 : Ref sig .tc := ⟨.hbm, 106, rfl⟩
abbrev main_while0b_cst_23 : Ref sig .tc := ⟨.hbm, 107, rfl⟩
abbrev main_while0b_v100 : Ref sig .tc := ⟨.hbm, 108, rfl⟩
abbrev main_while0b_v101 : Ref sig .tc := ⟨.hbm, 109, rfl⟩
abbrev main_while0b_v102 : Ref sig .tc := ⟨.hbm, 110, rfl⟩
abbrev main_while0b_cst_24 : Ref sig .tc := ⟨.hbm, 111, rfl⟩
abbrev main_while0b_v103 : Ref sig .tc := ⟨.hbm, 112, rfl⟩
abbrev main_while0b_v104 : Ref sig .tc := ⟨.hbm, 113, rfl⟩
abbrev main_while0b_v105 : Ref sig .tc := ⟨.hbm, 114, rfl⟩
abbrev main_while0b_v106 : Ref sig .tc := ⟨.hbm, 115, rfl⟩
abbrev main_while0b_v107 : Ref sig .tc := ⟨.hbm, 116, rfl⟩
abbrev main_while0b_cst_25 : Ref sig .tc := ⟨.hbm, 117, rfl⟩
abbrev main_while0b_call3_v0 : Ref sig .tc := ⟨.hbm, 118, rfl⟩
abbrev main_while0b_call3_v1 : Ref sig .tc := ⟨.hbm, 119, rfl⟩
abbrev main_while0b_v108 : Ref sig .tc := ⟨.hbm, 120, rfl⟩
abbrev main_while0b_call4_v0 : Ref sig .tc := ⟨.hbm, 121, rfl⟩
abbrev main_while0b_v109 : Ref sig .tc := ⟨.hbm, 122, rfl⟩
abbrev main_while0b_call5_v0 : Ref sig .tc := ⟨.hbm, 123, rfl⟩
abbrev main_while0b_call5_c : Ref sig .tc := ⟨.hbm, 124, rfl⟩
abbrev main_while0b_v110 : Ref sig .tc := ⟨.hbm, 125, rfl⟩
abbrev main_while0b_c_26 : Ref sig .tc := ⟨.hbm, 126, rfl⟩
abbrev main_while0b_v111 : Ref sig .tc := ⟨.hbm, 127, rfl⟩
abbrev main_cst_1 : Ref sig .tc := ⟨.hbm, 128, rfl⟩
abbrev main_v6 : Ref sig .tc := ⟨.hbm, 129, rfl⟩
abbrev main_v7 : Ref sig .tc := ⟨.hbm, 130, rfl⟩
abbrev main_cst_2 : Ref sig .tc := ⟨.hbm, 131, rfl⟩
abbrev main_v8 : Ref sig .tc := ⟨.hbm, 132, rfl⟩
abbrev main_v9 : Ref sig .tc := ⟨.hbm, 133, rfl⟩
abbrev main_v10 : Ref sig .tc := ⟨.hbm, 134, rfl⟩
abbrev main_v11 : Ref sig .tc := ⟨.hbm, 135, rfl⟩
abbrev main_v12 : Ref sig .tc := ⟨.hbm, 136, rfl⟩
abbrev main_v13 : Ref sig .tc := ⟨.hbm, 137, rfl⟩
abbrev main_v14 : Ref sig .tc := ⟨.hbm, 138, rfl⟩
abbrev main_cst_3 : Ref sig .tc := ⟨.hbm, 139, rfl⟩
abbrev main_v15 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_v20 : Ref sig .tc := ⟨.hbm, 145, rfl⟩
abbrev main_v21 : Ref sig .tc := ⟨.hbm, 146, rfl⟩
abbrev main_cst_4 : Ref sig .tc := ⟨.hbm, 147, rfl⟩
abbrev main_v22 : Ref sig .tc := ⟨.hbm, 148, rfl⟩
abbrev main_v23 : Ref sig .tc := ⟨.hbm, 149, rfl⟩
abbrev main_v24 : Ref sig .tc := ⟨.hbm, 150, rfl⟩
abbrev main_v25 : Ref sig .tc := ⟨.hbm, 151, rfl⟩
abbrev main_v26 : Ref sig .tc := ⟨.hbm, 152, rfl⟩
abbrev main_cst_5 : Ref sig .tc := ⟨.hbm, 153, rfl⟩
abbrev main_v27 : Ref sig .tc := ⟨.hbm, 154, rfl⟩
abbrev main_v28 : Ref sig .tc := ⟨.hbm, 155, rfl⟩
abbrev main_v29 : Ref sig .tc := ⟨.hbm, 156, rfl⟩
abbrev main_v30 : Ref sig .tc := ⟨.hbm, 157, rfl⟩
abbrev main_cst_6 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_v31 : Ref sig .tc := ⟨.hbm, 162, rfl⟩

abbrev nD : Nat := 1
abbrev τ : Topo := Topo.v7x

variable {F : FTy → Type} [FloatOps F]

abbrev main_while0_count : Scf.Loop 32 := ⟨0#32, 1000#32, 1#32⟩
-- ==== Proof.Setup.lean ====
/-
  The launch of the kernel program, up to the body of its one region: what the host lines before the region leave in
  every buffer, that no host line writes an argument, what each window's block is, and how the frame claim is read off
  the run of the whole program.
-/
module

public import proofs.«01_k».proof.KernelIdeal
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The measure of a loop entered through a label: a natural number that falls at each entry. -/
abbrev 𝒱₀ : Variants := Variants.nat

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No line of the host code makes a new buffer; one line for each part of it. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain : Pipeline.HMainK (Ix := Unit) (Name := ℕ) (U := UR sig nD τ) (Lvl := ℕ) (cfgs (F := F)) 0 (defs₀ (F := F)) 𝒱₀ m (main (F := F)) (V m)
      (fun _ => Pipeline.chain ([hostOps1 (F := F)].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs (F := F) p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs (F := F) p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs (F := F) p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs (F := F) p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide)
        (by exact (by decide : ∀ w, Pipeline.arrRef spec0 w ≠ main_arg0)))).trans (W_main_arg0 m dats c)),
      (((h c).2 main_arg1 (Pipeline.mem_restRefs_of main_arg1 (by decide)
        (by exact (by decide : ∀ w, Pipeline.arrRef spec0 w ≠ main_arg1)))).trans (W_main_arg1 m dats c)),
      (((h c).2 main_arg2 (Pipeline.mem_restRefs_of main_arg2 (by decide)
        (by exact (by decide : ∀ w, Pipeline.arrRef spec0 w ≠ main_arg2)))).trans (W_main_arg2 m dats c)),
      (((h c).2 main_arg3 (Pipeline.mem_restRefs_of main_arg3 (by decide)
        (by exact (by decide : ∀ w, Pipeline.arrRef spec0 w ≠ main_arg3)))).trans (W_main_arg3 m dats c))⟩) h

/-- Each window's current staging memref at point `t`, spelled as the pipeline passes it (`bodyAt0`), and its wholeness. -/
abbrev ms0_0 (t : Fin (cfg0 (F := F)).N) : Memref sig .tc .vmem S160x128 .f32 := win0_0.stage ((cfg0 (F := F)).slots t 0)
abbrev hs0_0 (t : Fin (cfg0 (F := F)).N) : (ms0_0 t).IsWhole := hstage0_0 0
abbrev ms0_1 (t : Fin (cfg0 (F := F)).N) : Memref sig .tc .vmem S160x128 .f32 := win0_1.stage ((cfg0 (F := F)).slots t 1)
abbrev hs0_1 (t : Fin (cfg0 (F := F)).N) : (ms0_1 t).IsWhole := hstage0_1 0
abbrev ms0_2 (t : Fin (cfg0 (F := F)).N) : Memref sig .tc .vmem S160x128 .f32 := win0_2.stage ((cfg0 (F := F)).slots t 2)
abbrev hs0_2 (t : Fin (cfg0 (F := F)).N) : (ms0_2 t).IsWhole := hstage0_2 0
abbrev ms0_3 (t : Fin (cfg0 (F := F)).N) : Memref sig .tc .vmem S160x128 .f32 := win0_3.stage ((cfg0 (F := F)).slots t 3)
abbrev hs0_3 (t : Fin (cfg0 (F := F)).N) : (ms0_3 t).IsWhole := hstage0_3 0
abbrev ms0_4 (t : Fin (cfg0 (F := F)).N) : Memref sig .tc .vmem S160x128 .f32 := win0_4.stage ((cfg0 (F := F)).slots t 4)
abbrev hs0_4 (t : Fin (cfg0 (F := F)).N) : (ms0_4 t).IsWhole := hstage0_4 0
abbrev ms0_5 (t : Fin (cfg0 (F := F)).N) : Memref sig .tc .vmem S1000x8 .f32 := win0_5.stage ((cfg0 (F := F)).slots t 5)
abbrev hs0_5 (t : Fin (cfg0 (F := F)).N) : (ms0_5 t).IsWhole := hstage0_5 0
/-- The scratch operands: whole scoped buffers of the kernel's own, passed beside the windows. -/
abbrev scM0_0 : Memref sig .tc .smem S1024 .f32 := Memref.whole cc0_scratch0
abbrev scM0_1 : Memref sig .tc .smem S1024 .f32 := Memref.whole cc0_scratch1
abbrev scM0_2 : Memref sig .tc .smem S1024 .f32 := Memref.whole cc0_scratch2
abbrev scM0_3 : Memref sig .tc .smem S1024 .f32 := Memref.whole cc0_scratch3
abbrev scM0_4 : Memref sig .tc .smem S1024 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Proof.K

end
-- ==== Proof.Model.lean ====
/-
  What the kernel computes, as plain functions over any float values: the region walks the sorted boxes in blocks of
  8 × 128; in a block it first crosses out what the boxes already kept overlap, then keeps the first box still alive,
  writes its row, crosses out what it overlaps, and goes on until none is alive or 1000 rows are written. Nothing here
  speaks of memory.
-/
module

public import proofs.«01_k».proof.Proof.Setup
public import Idealize.ShloMosaic.Lib.ValueIdxCore

@[expose] public section

noncomputable section

namespace Cert.Proof.K

open Cert.KernelIdeal Cert.KernelIdeal.Gen
open Idealize.ShloMosaic Idealize.ShloMosaic.TcCoe

variable {F : FTy → Type} [FloatOps F]

/-! ## The state -/

/-- The five sorted planes the region is given: scores and corners of 160 × 128 boxes. -/
structure Planes (F : FTy → Type) where
  s : Vec F S160x128 .f32
  x1 : Vec F S160x128 .f32
  y1 : Vec F S160x128 .f32
  x2 : Vec F S160x128 .f32
  y2 : Vec F S160x128 .f32

/-- One block of 8 × 128 boxes of them. -/
structure Chunk (F : FTy → Type) where
  s : Vec F S8x128 .f32
  x1 : Vec F S8x128 .f32
  y1 : Vec F S8x128 .f32
  x2 : Vec F S8x128 .f32
  y2 : Vec F S8x128 .f32

/-- A box that was kept: its corners and its area. -/
structure Kept (F : FTy → Type) where
  x1 : Elt F .f32
  y1 : Elt F .f32
  x2 : Elt F .f32
  y2 : Elt F .f32
  ar : Elt F .f32

/-- How many boxes were kept, which, and the result rows written so far. -/
structure St (F : FTy → Type) where
  t : ℕ
  kept : ℕ → Kept F
  out : Vec F S1000x8 .f32

/-! ## One block -/

/-- Block `ci` of a plane: its rows `8 ci`, …, `8 ci + 7` (beyond the plane the first rows stand in). -/
def blockOf (f : Vec F S160x128 .f32) (ci : ℕ) : Vec F S8x128 .f32 :=
  fun x => f (ValueIdx.ix2 ⟨(8 * ci + (x 0).val) % 160, Nat.mod_lt _ (by decide)⟩ ⟨(x 1).val, (x 1).isLt⟩)

/-- Block `ci` of every plane. -/
def chunkOf (P : Planes F) (ci : ℕ) : Chunk F :=
  ⟨blockOf P.s ci, blockOf P.x1 ci, blockOf P.y1 ci, blockOf P.x2 ci, blockOf P.y2 ci⟩

/-- The kept box `b` raises, at each box of the block, the largest overlap ratio seen so far. -/
def overlapStep (C : Chunk F) (acc : FVec F S8x128 .f32) (b : Kept F) : FVec F S8x128 .f32 :=
  k0_pay11 C.x1 C.y1 C.x2 C.y2 acc b.x1 b.y1 b.x2 b.y2 b.ar

/-- The largest overlap ratio of each box of the block with the first `n` kept boxes. -/
def overlapTo (C : Chunk F) (kept : ℕ → Kept F) : ℕ → FVec F S8x128 .f32
  | 0 => k0_pay10
  | n + 1 => overlapStep C (overlapTo C kept n) (kept n)

/-- The boxes of the block alive at first: those no kept box overlaps too much. -/
def alive0 (C : Chunk F) (s : St F) : FVec F S8x128 .f32 := k0_pay13 (overlapTo C s.kept s.t)

/-- The columns' numbers of a result row. -/
def cols : IVec S1x8 32 := iota .tc S1x8 32 [1] iota_S1x8_d1_w32

/-- The score of the first box alive. -/
def pickS (C : Chunk F) (al : FVec F S8x128 .f32) : F .f32 := k0_pay17 k0_pay2 (k0_pay4 C.s) al

/-- The first box alive. -/
def pick (C : Chunk F) (al : FVec F S8x128 .f32) : Kept F where
  x1 := k0_pay18 k0_pay2 (k0_pay5 C.x1) al
  y1 := k0_pay19 k0_pay2 (k0_pay6 C.y1) al
  x2 := k0_pay20 k0_pay2 (k0_pay7 C.x2) al
  y2 := k0_pay21 k0_pay2 (k0_pay8 C.y2) al
  ar := k0_pay22 k0_pay2 (k0_pay5 C.x1) (k0_pay6 C.y1) (k0_pay7 C.x2) (k0_pay8 C.y2) al

/-- The boxes alive after the first one alive was kept: those it does not overlap too much. -/
def aliveNext (C : Chunk F) (al : FVec F S8x128 .f32) : FVec F S8x128 .f32 :=
  k0_pay25 (k0_pay6 C.y1) (k0_pay7 C.x2) (k0_pay8 C.y2) (k0_pay9 C.x1 C.y1 C.x2 C.y2) al (pick C al).x2 (pick C al).y2
    (pick C al).ar (k0_pay23 k0_pay2 (k0_pay5 C.x1) al) (k0_pay24 k0_pay2 (k0_pay6 C.y1) al)

/-- Whether a kept box's row is shown: its score is at least one half, its sides at least forty. -/
def shown (sc : F .f32) (b : Kept F) : BitVec 1 :=
  Scalar.andi (Scalar.andi (Scalar.cmpf .oge sc (Scalar.ofBits .f32 0x3F000000#32))
      (Scalar.cmpf .oge (k0_pay26 b.x1 b.x2) (Scalar.ofBits .f32 0x42200000#32)))
    (Scalar.cmpf .oge (k0_pay27 b.y1 b.y2) (Scalar.ofBits .f32 0x42200000#32))

/-- A kept box's row. -/
def rowOf (sc : F .f32) (b : Kept F) : FVec F S1x8 .f32 :=
  k0_pay15 cols b.x1 b.y1 b.x2 b.y2 (shown sc b) (k0_pay28 cols sc) 2#32

/-- A result with its row `t` replaced. -/
def putRow (out : Vec F S1000x8 .f32) (t : ℕ) (r : FVec F S1x8 .f32) : Vec F S1000x8 .f32 :=
  fun i => if (i 0).val = t then r (ValueIdx.ix2 0 ⟨(i 1).val, (i 1).isLt⟩) else out i

/-- Keeping the first box alive: one more kept box, one more row. -/
def keepOne (C : Chunk F) (al : FVec F S8x128 .f32) (s : St F) : St F :=
  ⟨s.t + 1, Function.update s.kept s.t (pick C al), putRow s.out s.t (rowOf (pickS C al) (pick C al))⟩

/-- Whether another box is kept from the block: one is alive and fewer than 1000 rows are written. -/
def more (al : FVec F S8x128 .f32) (t : ℕ) : BitVec 1 :=
  Scalar.andi (Scalar.cmpf .ogt (k0_pay14 al) (Scalar.ofBits .f32 0x00000000#32)) (Scalar.cmpi .slt (BitVec.ofNat 32 t) 1000#32)

/-- Keeping boxes from one block, `n` at most. -/
def inner (C : Chunk F) : ℕ → FVec F S8x128 .f32 → St F → St F
  | 0, _, s => s
  | n + 1, al, s => if more al s.t = 1#1 then inner C n (aliveNext C al) (keepOne C al s) else s

/-! ## All blocks -/

/-- Whether some box of a block scores at least one half. -/
def anyGood (P : Planes F) (ci : ℕ) : BitVec 1 :=
  Scalar.cmpf .oge (k0_pay3 (blockOf P.s ci)) (Scalar.ofBits .f32 0x3F000000#32)

/-- One block: what is kept from it, if a box of it scores enough. -/
def blockStep (P : Planes F) (ci : ℕ) (s : St F) : St F :=
  if k0_cond1 (anyGood P ci) = 1#1 then inner (chunkOf P ci) (1000 - s.t) (alive0 (chunkOf P ci) s) s else s

/-- Whether the next block is looked at. -/
def goOn (P : Planes F) (ci : ℕ) (t : ℕ) : BitVec 1 :=
  Scalar.andi (Scalar.andi (anyGood P ci) (Scalar.cmpi .slt (BitVec.ofNat 32 (ci + 1)) 20#32))
    (Scalar.cmpi .slt (BitVec.ofNat 32 t) 1000#32)

/-- The blocks from `ci` on, `n` at most, while `go`. -/
def outer (P : Planes F) : ℕ → ℕ → BitVec 1 → St F → St F
  | 0, _, _, s => s
  | n + 1, ci, go, s =>
    if go = 1#1 then outer P n (ci + 1) (goOn P ci (blockStep P ci s).t) (blockStep P ci s) else s

/-- No box kept yet, a result of zeros. -/
def start : St F :=
  ⟨0, fun _ => ⟨Scalar.ofBits .f32 0#32, Scalar.ofBits .f32 0#32, Scalar.ofBits .f32 0#32,
    Scalar.ofBits .f32 0#32, Scalar.ofBits .f32 0#32⟩, k0_pay1⟩

/-- What the region writes. -/
def result (P : Planes F) : Vec F S1000x8 .f32 := (outer P 20 0 1#1 start).out

end Cert.Proof.K

end
-- ==== Proof.Words.lean ====
/-
  The arithmetic of the kernel's loop counters — offsets, trip counts, tests, all at counters below their bounds — and
  what one load and one store are, element by element.
-/
module

public import proofs.«01_k».proof.Proof.Model
public import Idealize.ShloMosaic.Lib.LoopRemainder
public import Idealize.ShloMosaic.Lib.WordCmp

@[expose] public section

noncomputable section

namespace Cert.Proof.K

open Cert.KernelIdeal Cert.KernelIdeal.Gen
open Idealize.ShloMosaic Idealize.ShloMosaic.TcCoe

variable {F : FTy → Type} [FloatOps F]

/-! ## Offsets -/

/-- Where block `ci` starts in the plane of scores: at row `8 * ci`. -/
theorem off1_eq (ci : ℕ) (hci : ci < 20) : k0_off1 (BitVec.ofNat 32 ci) = ![8 * ci, 0] := by
  interval_cases ci <;> rfl
/-- The same in the branch, for the planes of corners and scores. -/
theorem off2_eq (ci : ℕ) (hci : ci < 20) : k0_off2 (BitVec.ofNat 32 ci) = ![8 * ci, 0] := by
  interval_cases ci <;> rfl
/-- Where a kept box is stored in a scalar buffer. -/
theorem off5_eq (t : ℕ) (ht : t < 1024) : k0_off5 (BitVec.ofNat 32 t) = ![t] := by
  simp only [k0_off5, Scalar.indexCast]
  congr 1
  simp [Nat.mod_eq_of_lt (show t < 4294967296 by omega)]
/-- Where its row is stored in the result. -/
theorem off6_eq (t : ℕ) (ht : t < 1024) : k0_off6 (BitVec.ofNat 32 t) = ![t, 0] := by
  simp only [k0_off6, Scalar.indexCast]
  congr 1
  simp [Nat.mod_eq_of_lt (show t < 4294967296 by omega)]

/-- A counter below 2³¹ is its own signed reading. -/
theorem toInt_ofNat (t : ℕ) (ht : t < 2 ^ 31) : (BitVec.ofNat 32 t).toInt = t := by
  rw [BitVec.toInt_eq_toNat_of_lt] <;> rw [BitVec.toNat_ofNat, Nat.mod_eq_of_lt] <;> omega

/-! ## The loop over the kept boxes -/

/-- The counted loop runs from nought up to the number of boxes kept. -/
theorem t1_ub (t : ℕ) : (k0_t1_loop (BitVec.ofNat 32 t)) = ⟨0#32, BitVec.ofNat 32 t, 1#32⟩ := by
  have h := Scalar.muli_divsi_one (Scalar.subi (BitVec.ofNat 32 t) 0#32)
  simp only [k0_t1_loop, h]
  simp [Scalar.addi, Scalar.subi, IntOp.addi, IntOp.subi]

/-- A loop from nought to `t` by one takes `t` passes. -/
theorem trips_ofNat (t : ℕ) (ht : t ≤ 1000) : Scf.trips 0#32 (BitVec.ofNat 32 t) 1#32 = t := by
  unfold Scf.trips
  rw [toInt_ofNat t (by omega)]
  simp

/-- The loop over the kept boxes takes one pass for each. -/
theorem t1_trips (t : ℕ) (ht : t ≤ 1000) : (k0_t1_loop (BitVec.ofNat 32 t)).trips = t := by
  rw [t1_ub]; exact trips_ofNat t ht

/-- Its counter does not overflow. -/
theorem t1_ok (t : ℕ) (ht : t ≤ 1000) : (k0_t1_loop (BitVec.ofNat 32 t)).OK := by
  rw [t1_ub]
  refine ⟨show (0 : ℤ) < (1#32).toInt by decide, ?_⟩
  show (0#32).toInt + (Scf.trips 0#32 (BitVec.ofNat 32 t) 1#32 : ℤ) * (1#32).toInt < 2 ^ 31
  rw [trips_ofNat t ht]
  simp; omega

/-- Pass `k` reads element `k` of each scalar buffer. -/
theorem off3_eq (t : ℕ) (ht : t ≤ 1000) (k : Fin (k0_t1_loop (BitVec.ofNat 32 t)).trips) :
    k0_off3 (BitVec.ofNat 32 t) k = ![k.val] := by
  have hk := k.isLt
  have h2 := t1_trips t ht
  simp only [k0_off3, Scalar.indexCast, Scf.iv]
  congr 1
  simp
  omega

/-- The remainder loop behind it takes no pass. -/
theorem t2_trips (a : BitVec 32) : (k0_t2_loop a).trips = 0 := Scf.rem_trips 0#32 (Scalar.subi a 0#32)

/-- Nor does its counter overflow. -/
theorem t2_ok (a : BitVec 32) : (k0_t2_loop a).OK := Scf.rem_ok 0#32 (Scalar.subi a 0#32)

/-! ## The body's checks -/

/-- The load of a block of scores lies within the plane. -/
theorem chk1 (ci : ℕ) (hci : ci < 20) : k0_chk1 (BitVec.ofNat 32 ci) := by
  unfold k0_chk1
  rw [off1_eq ci hci]
  intro a; fin_cases a
  · show 8 * ci + 8 ≤ 160; omega
  · show 0 + 128 ≤ 128; omega

/-- The loads in the branch lie within their buffers, and its loops are well formed. -/
theorem chk2 (ci t : ℕ) (hci : ci < 20) (ht : t ≤ 1000) (v : BitVec 1) : k0_chk2 (BitVec.ofNat 32 ci) (BitVec.ofNat 32 t) v := by
  refine ⟨fun _ => ?_, fun _ => t1_ok t ht, fun k _ => ?_, fun _ => t2_ok _, fun k _ => ?_⟩
  · rw [off2_eq ci hci]
    intro a; fin_cases a
    · show 8 * ci + 8 ≤ 160; omega
    · show 0 + 128 ≤ 128; omega
  · rw [off3_eq t ht k]
    have hk := k.isLt
    have h2 := t1_trips t ht
    intro a; fin_cases a
    show k.val + 1 ≤ 1024; omega
  · exact absurd (lt_of_lt_of_eq k.isLt (t2_trips _)) (Nat.not_lt_zero _)

/-- The stores of a kept box lie within their buffers. -/
theorem chk3 (t : ℕ) (ht : t < 1000) (v : BitVec 1) : k0_chk3 v (BitVec.ofNat 32 t) := by
  refine ⟨fun _ => ?_, fun _ => ?_⟩
  · rw [off5_eq t (by omega)]
    intro a; fin_cases a
    show t + 1 ≤ 1024; omega
  · rw [off6_eq t (by omega)]
    intro a; fin_cases a
    · show t + 1 ≤ 1000; omega
    · show 0 + 8 ≤ 8; omega

/-! ## The tests -/

/-- A one-bit conjunction that is set has both sides set. -/
theorem andi_one {a b : BitVec 1} (h : Scalar.andi a b = 1#1) : a = 1#1 ∧ b = 1#1 := by
  revert a b; decide

/-- Comparing two counters as words compares them as numbers. -/
theorem slt_one_iff {a b : ℕ} (ha : a < 2 ^ 31) (hb : b < 2 ^ 31) :
    Scalar.cmpi .slt (BitVec.ofNat 32 a) (BitVec.ofNat 32 b) = 1#1 ↔ a < b :=
  WordCmp.cmpi_slt_ofNat_eq_one_iff ha hb

/-- A counter's next value. -/
theorem addi_one (a : ℕ) : Scalar.addi (BitVec.ofNat 32 a) 1#32 = BitVec.ofNat 32 (a + 1) := by
  simp [Scalar.addi, IntOp.addi, BitVec.ofNat_add]

/-- Another box is kept only while fewer than 1000 rows are written. -/
theorem lt_of_more {al : FVec F S8x128 .f32} {t : ℕ} (ht : t ≤ 1000) (h : more al t = 1#1) : t < 1000 :=
  (slt_one_iff (by omega) (by omega)).1 (andi_one h).2

/-- The next block is looked at only if there is one. -/
theorem lt_of_goOn {P : Planes F} {ci t : ℕ} (hci : ci < 20) (h : goOn P ci t = 1#1) : ci + 1 < 20 := by
  have := (andi_one (andi_one h).1).2
  exact (slt_one_iff (by omega) (by omega)).1 this

/-- The inner loop writes no more than 1000 rows. -/
theorem inner_t_le (C : Chunk F) : ∀ (n : ℕ) (al : FVec F S8x128 .f32) (s : St F), s.t + n ≤ 1000 → (inner C n al s).t ≤ 1000
  | 0, _, s, h => by simpa [inner] using h
  | n + 1, al, s, h => by
    unfold inner
    split
    · exact inner_t_le C n _ _ (by simp only [keepOne]; omega)
    · omega

/-- Nor does a block. -/
theorem blockStep_t_le (P : Planes F) (ci : ℕ) (s : St F) (h : s.t ≤ 1000) : (blockStep P ci s).t ≤ 1000 := by
  unfold blockStep
  split
  · exact inner_t_le _ _ _ _ (by omega)
  · exact h

/-! ## One load, one store -/

/-- The block a load of a plane reads. -/
theorem load_block1 (ci : ℕ) (hci : ci < 20) (h) (f : Vec F S160x128 .f32) :
    (fun x => f ((Rect.unit (s := S160x128) (k0_off1 (BitVec.ofNat 32 ci)) S8x128.size h).toLoadRect.idx x)) = blockOf f ci := by
  funext x
  unfold blockOf
  congr 1
  have h0 : (x 0).val < 8 := (x 0).isLt
  funext a; fin_cases a <;> apply Fin.ext
  · show k0_off1 (BitVec.ofNat 32 ci) 0 + 1 * (x 0).val = (8 * ci + (x 0).val) % 160
    have e : k0_off1 (BitVec.ofNat 32 ci) 0 = 8 * ci := congrFun (off1_eq ci hci) 0
    omega
  · show k0_off1 (BitVec.ofNat 32 ci) 1 + 1 * (x 1).val = (x 1).val
    have e : k0_off1 (BitVec.ofNat 32 ci) 1 = 0 := congrFun (off1_eq ci hci) 1
    omega

/-- The same of the loads in the branch. -/
theorem load_block2 (ci : ℕ) (hci : ci < 20) (h) (f : Vec F S160x128 .f32) :
    (fun x => f ((Rect.unit (s := S160x128) (k0_off2 (BitVec.ofNat 32 ci)) S8x128.size h).toLoadRect.idx x)) = blockOf f ci :=
  load_block1 ci hci h f

/-- A word stored in a scalar buffer: that element holds it, every other what it held. -/
theorem read_store (v : View sig .tc .smem S1024 .f32) (o : Fin 1 → ℕ) (h) (g : v.ty.Contents (Elt F)) (w : Elt F .f32) (i : S1024.Idx) :
    v.read (Elt F) ((v.slice (Rect.unit (s := S1024) o S1.size h)).write (Elt F) g (fun _ => w) Finset.univ) i
      = if (i 0).val = o 0 then w else v.read (Elt F) g i := by
  by_cases hi : (i 0).val = o 0
  · rw [if_pos hi]
    have : i = (Rect.unit (s := S1024) o S1.size h).emb (ValueIdx.ix1 0) := by
      funext a; fin_cases a; apply Fin.ext; exact hi
    rw [this, View.read_slice_write_emb _ _ _ (Finset.mem_univ _)]
  · rw [if_neg hi]
    apply View.read_slice_write_of_not_mem
    intro hm
    obtain ⟨x, -, hx⟩ := Finset.mem_map.mp hm
    apply hi
    rw [← hx]
    have hx0 : (x 0).val < 1 := (x 0).isLt
    show o 0 + 1 * (x 0).val = o 0
    omega

/-- A row stored in the result. -/
theorem store_row (t : ℕ) (ht : t < 1000) (h) (out : Vec F S1000x8 .f32) (r : FVec F S1x8 .f32) :
    ((Memref.whole cc0_stg5_0).access (Rect.unit (s := S1000x8) (k0_off6 (BitVec.ofNat 32 t)) S1x8.size h) : View sig .tc _ _ _).write
      (Elt F) out r Finset.univ = putRow out t r := by
  have h0 : k0_off6 (BitVec.ofNat 32 t) 0 = t := congrFun (off6_eq t (by omega)) 0
  have h1 : k0_off6 (BitVec.ofNat 32 t) 1 = 0 := congrFun (off6_eq t (by omega)) 1
  funext i
  show (Memref.whole cc0_stg5_0 : Memref sig .tc .vmem S1000x8 .f32).view.read (Elt F)
    (((Memref.whole cc0_stg5_0 : Memref sig .tc .vmem S1000x8 .f32).view.slice
      (Rect.unit (s := S1000x8) (k0_off6 (BitVec.ofNat 32 t)) S1x8.size h)).write (Elt F) out r Finset.univ) i = _
  unfold putRow
  by_cases hi : (i 0).val = t
  · rw [if_pos hi]
    have : i = (Rect.unit (s := S1000x8) (k0_off6 (BitVec.ofNat 32 t)) S1x8.size h).emb (ValueIdx.ix2 0 ⟨(i 1).val, (i 1).isLt⟩) := by
      funext a; fin_cases a <;> apply Fin.ext
      · show (i 0).val = k0_off6 (BitVec.ofNat 32 t) 0 + 1 * 0
        omega
      · show (i 1).val = k0_off6 (BitVec.ofNat 32 t) 1 + 1 * (i 1).val
        omega
    conv_lhs => rw [this]
    exact View.read_slice_write_emb _ _ _ (Finset.mem_univ _)
  · rw [if_neg hi]
    refine (View.read_slice_write_of_not_mem _ _ _ _ ?_).trans rfl
    intro hm
    obtain ⟨x, -, hx⟩ := Finset.mem_map.mp hm
    apply hi
    rw [← hx]
    have hx0 : (x 0).val < 1 := (x 0).isLt
    show k0_off6 (BitVec.ofNat 32 t) 0 + 1 * (x 0).val = t
    omega

end Cert.Proof.K

end
-- ==== Proof.Inner.lean ====
/-
  The kernel's inner loop, which keeps boxes from one block: from the result buffer and the five scalar buffers of kept
  boxes as the state `s` describes them, the loop entered with `1000 - s.t` rounds to go leaves them as `inner` says.
-/
module

public import proofs.«01_k».proof.Proof.Words

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## A scalar buffer of kept boxes -/

/-- The scalar buffer `M` is held and its first `t` elements are `p 0`, …, `p (t - 1)`. -/
def cells (c : Dev nD) (M : Memref sig .tc .smem S1024 .f32) (t : ℕ) (p : ℕ → Elt F .f32) : sProp 𝕄 :=
  iprop(∃ g : Buf (Elt F) (M.view.loc (c : Thread nD τ)),
    ⌜∀ i : S1024.Idx, (i 0).val < t → M.view.read (Elt F) g i = p (i 0).val⌝ ∗ (M.view.loc (c : Thread nD τ) ↦{fullShare} g))

section Rules

variable (c : Dev nD) (bd : Option ℕ) {α : Type}
  {M : Memref sig .tc .smem S1024 .f32} {t : ℕ} {p : ℕ → Elt F .f32} {o : Fin 1 → ℕ} {h : ∀ a, o a + S1.size a ≤ S1024.size a}

/-- A load of one of the first `t` elements answers that element. -/
theorem cells_load (k : ℕ) (ho : o = ![k]) (hk : k < t) {h1 hp} {kk : Elt F .f32 → Prog (TpuEff nD τ sig (Elt F) (Λ₀ F) .tc) α} {Q : α → sProp 𝕄} :
    cells c M t p ⊢ iprop((cells c M t p -∗ wp frame (wpE (defs₀ (F := F)) 𝒱₀ (c : Thread nD τ) bd) Set.univ (kk (p k)) Q)
      -∗ wp frame (wpE (defs₀ (F := F)) 𝒱₀ (c : Thread nD τ) bd) Set.univ
        (smemLoad M (Rect.unit (s := S1024) o S1.size h) h1 hp >>= kk) Q) := by
  unfold cells smemLoad smemLoadElt
  simp only [Prog.bind_op, Prog.bind_ret]
  iintro ⟨%g, %hg, H⟩
  iintro Hk
  iapply (wp_load_rect 𝒱₀ (c : Thread nD τ) bd Set.univ (m := M) (r := Rect.unit (s := S1024) o S1.size h) (Finset.subset_univ _)) $$ H
  iintro H
  have e : (M.access (Rect.unit (s := S1024) o S1.size h)).read (Elt F) g (Shape.Idx.first (h1.symm ▸ Nat.one_pos)) = p k := by
    have hz : ((Rect.unit (s := S1024) o S1.size h).idx (Shape.Idx.first (h1.symm ▸ Nat.one_pos)) 0).val = k := by
      show o 0 + 1 * 0 = k
      rw [ho]; rfl
    rw [← hz, ← hg _ (by rw [hz]; exact hk)]
    rfl
  rw [e]
  iapply Hk
  iexists g
  isplitr
  · ipureintro; exact hg
  · iexact H

/-- A load whose answer is not used. -/
theorem cells_skip {h1 hp} {kk : Prog (TpuEff nD τ sig (Elt F) (Λ₀ F) .tc) α} {Q : α → sProp 𝕄} :
    cells c M t p ⊢ iprop((cells c M t p -∗ wp frame (wpE (defs₀ (F := F)) 𝒱₀ (c : Thread nD τ) bd) Set.univ kk Q)
      -∗ wp frame (wpE (defs₀ (F := F)) 𝒱₀ (c : Thread nD τ) bd) Set.univ
        (smemLoad M (Rect.unit (s := S1024) o S1.size h) h1 hp >>= fun _ => kk) Q) := by
  unfold cells smemLoad smemLoadElt
  simp only [Prog.bind_op, Prog.bind_ret]
  iintro ⟨%g, %hg, H⟩
  iintro Hk
  iapply (wp_load_rect 𝒱₀ (c : Thread nD τ) bd Set.univ (m := M) (r := Rect.unit (s := S1024) o S1.size h) (Finset.subset_univ _)) $$ H
  iintro H
  iapply Hk
  iexists g
  isplitr
  · ipureintro; exact hg
  · iexact H

/-- A store of element `t` lengthens the buffer's known part by one. -/
theorem cells_store (ho : o = ![t]) {w : Elt F .f32} {p' : ℕ → Elt F .f32} (hw : p' t = w) (hp' : ∀ k, k < t → p' k = p k) {hx hm}
    {kk : PUnit → Prog (TpuEff nD τ sig (Elt F) (Λ₀ F) .tc) α} {Q : α → sProp 𝕄} :
    cells c M t p ⊢ iprop((cells c M (t + 1) p' -∗ wp frame (wpE (defs₀ (F := F)) 𝒱₀ (c : Thread nD τ) bd) Set.univ (kk ⟨⟩) Q)
      -∗ wp frame (wpE (defs₀ (F := F)) 𝒱₀ (c : Thread nD τ) bd) Set.univ
        (.op (.store M (Rect.unit (s := S1024) o S1.size h) (fun _ => w) Finset.univ hx hm) kk) Q) := by
  unfold cells
  iintro ⟨%g, %hg, H⟩
  iintro Hk
  iapply (wp_store 𝒱₀ (c : Thread nD τ) bd Set.univ (m := M) (r := Rect.unit (s := S1024) o S1.size h) (Mk := Finset.univ) (Finset.subset_univ _)) $$ H
  iintro H
  iapply Hk
  iexists _
  isplitr; swap
  · iexact H
  · ipureintro
    intro i hi
    refine (read_store M.view o h g w i).trans ?_
    have h0 : o 0 = t := by rw [ho]; rfl
    rw [h0]
    by_cases hit : (i 0).val = t
    · rw [if_pos hit, hit, hw]
    · rw [if_neg hit, hg i (by omega), hp' _ (by omega)]

end Rules

/-! ## The buffers of the state -/

/-- The result buffer and the five scalar buffers, as `s` describes them. -/
def held (c : Dev nD) (s : St F) : sProp 𝕄 :=
  iprop((((c : Thread nD τ).loc cc0_stg5_0) ↦{fullShare} s.out)
    ∗ cells c scM0_0 s.t (fun k => (s.kept k).x1) ∗ cells c scM0_1 s.t (fun k => (s.kept k).y1)
    ∗ cells c scM0_2 s.t (fun k => (s.kept k).x2) ∗ cells c scM0_3 s.t (fun k => (s.kept k).y2)
    ∗ cells c scM0_4 s.t (fun k => (s.kept k).ar))

/-- The inner loop's specification: holding the buffers of `s` it returns the number of rows of `inner`, and its buffers. -/
def spec2 (c : Dev nD) (C : Chunk F) (n : ℕ) (al : FVec F S8x128 .f32) (s : St F) : sWPT 𝕄 (BitVec 32 × FVec F S8x128 .f32) := do
  sWPT.consume (held c s)
  let r ← sWPT.arbitrary
  sWPT.assume (r.1 = BitVec.ofNat 32 (inner C n al s).t)
  sWPT.produce (held c (inner C n al s))
  pure r

/-- The specification, written out. -/
theorem spec2_apply (c : Dev nD) (C : Chunk F) (n : ℕ) (al : FVec F S8x128 .f32) (s : St F) (K : BitVec 32 × FVec F S8x128 .f32 → sProp 𝕄) :
    spec2 c C n al s K = iprop(held c s ∗ ∀ r : BitVec 32 × FVec F S8x128 .f32, ⌜r.1 = BitVec.ofNat 32 (inner C n al s).t⌝
      -∗ (held c (inner C n al s) -∗ K r)) := rfl

/-- The inner loop's body meets the specification, by induction on the rounds to go: when no box is alive or 1000 rows are
    written it returns; otherwise it reads off the first box alive, stores its corners and area in the scalar buffers and
    its row in the result, crosses out what it overlaps, and goes on with one round less. -/
theorem spec2_le (c : Dev nD) (C : Chunk F) (a11 : BitVec 32) (hw1 : k0_chk1 a11) (a12 : BitVec 32) (v17 : BitVec 1)
    (hw2 : k0_chk2 a11 a12 v17) (h1 : k0_cond1 v17 = 1#1) :
    ∀ (n : ℕ) (al : FVec F S8x128 .f32) (s : St F), s.t + n = 1000 → ∀ K, spec2 c C n al s K
      ⊢ wp frame (wpE (defs₀ (F := F)) 𝒱₀ (c : Thread nD τ) (some n)) Set.univ
          (defs₀ (F := F) .tc 2 ⟨a11, hw1, a12, v17, hw2, h1, k0_pay2, k0_pay4 C.s, k0_pay5 C.x1, k0_pay6 C.y1, k0_pay7 C.x2, k0_pay8 C.y2,
            k0_pay9 C.x1 C.y1 C.x2 C.y2, scM0_0, Memref.isWhole_whole _, scM0_1, Memref.isWhole_whole _, scM0_2, Memref.isWhole_whole _,
            scM0_3, Memref.isWhole_whole _, scM0_4, Memref.isWhole_whole _, cols, Memref.whole cc0_stg5_0, Memref.isWhole_whole _,
            BitVec.ofNat 32 s.t, al⟩) K := by
  intro n
  induction n with
  | zero =>
    intro al s ht K
    rw [spec2_apply]
    show _ ⊢ wp frame (wpE (defs₀ (F := F)) 𝒱₀ (c : Thread nD τ) (some 0)) Set.univ (cc0_while2 _ _ _ _ _ _ _ _ _ _ _ _ _ _ _ _ _ _ _ _ _ _ _ _ _ _ _ _) K
    simp only [cc0_while2_eq_skeleton]; unfold cc0_while2_skel
    have hm : ¬ more al s.t = 1#1 := fun h => by have := lt_of_more (by omega) h; omega
    unfold more at hm
    simp only [hm, ↓reduceIte, Prog.pure_eq_ret]
    iintro ⟨H, Hk⟩
    rw [wp_ret]; imodintro
    iapply Hk
    · ipureintro; rfl
    · iexact H
  | succ n ih =>
    intro al s ht K
    rw [spec2_apply]
    show _ ⊢ wp frame (wpE (defs₀ (F := F)) 𝒱₀ (c : Thread nD τ) (some (n + 1))) Set.univ (cc0_while2 _ _ _ _ _ _ _ _ _ _ _ _ _ _ _ _ _ _ _ _ _ _ _ _ _ _ _ _) K
    simp only [cc0_while2_eq_skeleton]; unfold cc0_while2_skel
    by_cases hm : more al s.t = 1#1
    · have hlt : s.t < 1000 := by omega
      have hi : inner C (n + 1) al s = inner C n (aliveNext C al) (keepOne C al s) := by rw [inner, if_pos hm]
      rw [hi]
      unfold more at hm
      simp only [hm, ↓reduceIte]
      simp only [k0_part1_eq_skeleton, k0_part2_eq_skeleton]; unfold k0_part1_skel k0_part2_skel
      simp only [Prog.lift, Prog.bind_op, Prog.bind_ret, Prog.pure_eq_ret, Prog.bind_assoc]
      unfold held
      iintro ⟨⟨Ho, H0, H1, H2, H3, H4⟩, Hk⟩
      iapply (wp_assume 𝒱₀ (c : Thread nD τ) (some (n + 1)) Set.univ (chk3 s.t hlt v17))
      have ho := off5_eq s.t (by omega)
      iapply (cells_skip c (some (n + 1))) $$ H0; iintro H0
      iapply (cells_store c (some (n + 1)) ho (p' := fun k => ((keepOne C al s).kept k).x1) (by simp [keepOne]; rfl) (fun k hk => by simp [keepOne, Function.update_of_ne (show k ≠ s.t by omega)])) $$ H0; iintro H0
      iapply (cells_skip c (some (n + 1))) $$ H1; iintro H1
      iapply (cells_store c (some (n + 1)) ho (p' := fun k => ((keepOne C al s).kept k).y1) (by simp [keepOne]; rfl) (fun k hk => by simp [keepOne, Function.update_of_ne (show k ≠ s.t by omega)])) $$ H1; iintro H1
      iapply (cells_skip c (some (n + 1))) $$ H2; iintro H2
      iapply (cells_store c (some (n + 1)) ho (p' := fun k => ((keepOne C al s).kept k).x2) (by simp [keepOne]; rfl) (fun k hk => by simp [keepOne, Function.update_of_ne (show k ≠ s.t by omega)])) $$ H2; iintro H2
      iapply (cells_skip c (some (n + 1))) $$ H3; iintro H3
      iapply (cells_store c (some (n + 1)) ho (p' := fun k => ((keepOne C al s).kept k).y2) (by simp [keepOne]; rfl) (fun k hk => by simp [keepOne, Function.update_of_ne (show k ≠ s.t by omega)])) $$ H3; iintro H3
      iapply (cells_skip c (some (n + 1))) $$ H4; iintro H4
      iapply (cells_store c (some (n + 1)) ho (p' := fun k => ((keepOne C al s).kept k).ar) (by simp [keepOne]; rfl) (fun k hk => by simp [keepOne, Function.update_of_ne (show k ≠ s.t by omega)])) $$ H4; iintro H4
      iapply (wp_load 𝒱₀ (c : Thread nD τ) (some (n + 1)) Set.univ (m := Memref.whole cc0_stg5_0) (Finset.subset_univ _)) $$ Ho; iintro Ho
      iapply (wp_store 𝒱₀ (c : Thread nD τ) (some (n + 1)) Set.univ (m := Memref.whole cc0_stg5_0)
        (r := Rect.unit (s := S1000x8) (k0_off6 (BitVec.ofNat 32 s.t)) S1x8.size (k0_off6_inb v17 _ (chk3 s.t hlt v17) h1)) (Mk := Finset.univ) (Finset.subset_univ _)) $$ Ho; iintro Ho
      rw [store_row s.t hlt, addi_one]
      iapply (wp_call_spec 𝒱₀ (c : Thread nD τ) (some (n + 1)) Set.univ (spec2 c C n (aliveNext C al) (keepOne C al s)) n
        (fun u hu => by cases hu; exact Nat.lt_succ_self n)
        (ih (aliveNext C al) (keepOne C al s) (by simp only [keepOne]; omega)))
      rw [spec2_apply]
      isplitl [Ho H0 H1 H2 H3 H4]
      · unfold held
        isplitl [Ho]; · iexact Ho
        isplitl [H0]; · iexact H0
        isplitl [H1]; · iexact H1
        isplitl [H2]; · iexact H2
        isplitl [H3]; · iexact H3
        iexact H4
      iintro %r %hr H
      rw [wp_ret]; imodintro
      iapply Hk
      · ipureintro; exact hr
      · unfold held; iexact H
    · have hi : inner C (n + 1) al s = s := by rw [inner, if_neg hm]
      rw [hi]
      unfold more at hm
      simp only [hm, ↓reduceIte, Prog.pure_eq_ret]
      iintro ⟨H, Hk⟩
      rw [wp_ret]; imodintro
      iapply Hk
      · ipureintro; rfl
      · iexact H

end Cert.Proof.K

end
-- ==== Proof.Body.lean ====
/-
  The kernel's outer loop, over the blocks of boxes in descending score, and the whole body: from the five planes it
  leaves the result buffer as `result` says.
-/
module

public import proofs.«01_k».proof.Proof.Inner

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The five planes are held. -/
def planes (c : Dev nD) (P : Planes F) : sProp 𝕄 :=
  iprop((((c : Thread nD τ).loc cc0_stg0_0) ↦{fullShare} P.s) ∗ (((c : Thread nD τ).loc cc0_stg1_0) ↦{fullShare} P.x1)
    ∗ (((c : Thread nD τ).loc cc0_stg2_0) ↦{fullShare} P.y1) ∗ (((c : Thread nD τ).loc cc0_stg3_0) ↦{fullShare} P.x2)
    ∗ (((c : Thread nD τ).loc cc0_stg4_0) ↦{fullShare} P.y2))

/-- The outer loop's specification: holding the planes and the buffers of `s` it returns with the planes unchanged and the
    buffers of `outer`. -/
def spec1 (c : Dev nD) (P : Planes F) (k ci : ℕ) (go : BitVec 1) (s : St F) : sWPT 𝕄 (BitVec 32 × BitVec 32 × BitVec 1) := do
  sWPT.consume (iprop(planes c P ∗ held c s))
  let r ← sWPT.arbitrary
  sWPT.produce (iprop(planes c P ∗ held c (outer P k ci go s)))
  pure r

/-- The specification, written out. -/
theorem spec1_apply (c : Dev nD) (P : Planes F) (k ci : ℕ) (go : BitVec 1) (s : St F) (K : BitVec 32 × BitVec 32 × BitVec 1 → sProp 𝕄) :
    spec1 c P k ci go s K = iprop((planes c P ∗ held c s) ∗ ∀ r : BitVec 32 × BitVec 32 × BitVec 1,
      ((planes c P ∗ held c (outer P k ci go s)) -∗ K r)) := rfl

/-- One pass of the loop over the kept boxes: reading the kept box `k` and raising the overlap ratios by it. -/
theorem kept_pass (c : Dev nD) (bd : Option ℕ) (C : Chunk F) (s : St F) {k : ℕ} (hk : k < s.t) {acc : FVec F S8x128 .f32}
    {o : Fin 1 → ℕ} (ho : o = ![k]) {h : ∀ a, o a + S1.size a ≤ S1024.size a} {h1 hp} :
    iprop(⌜acc = overlapTo C s.kept k⌝ ∗ held c s)
      ⊢ wp frame (wpE (defs₀ (F := F)) 𝒱₀ (c : Thread nD τ) bd) Set.univ
        (smemLoad scM0_0 (Rect.unit (s := S1024) o S1.size h) h1 hp >>= fun v61 =>
          smemLoad scM0_1 (Rect.unit (s := S1024) o S1.size h) h1 hp >>= fun v63 =>
          smemLoad scM0_2 (Rect.unit (s := S1024) o S1.size h) h1 hp >>= fun v65 =>
          smemLoad scM0_3 (Rect.unit (s := S1024) o S1.size h) h1 hp >>= fun v67 =>
          smemLoad scM0_4 (Rect.unit (s := S1024) o S1.size h) h1 hp >>= fun v69 =>
          (pure (k0_pay11 C.x1 C.y1 C.x2 C.y2 acc v61 v63 v65 v67 v69) : Prog (TpuEff nD τ sig (Elt F) (Λ₀ F) .tc) (FVec F S8x128 .f32)))
        (fun acc' => iprop(⌜acc' = overlapTo C s.kept (k + 1)⌝ ∗ held c s)) := by
  unfold held
  iintro ⟨%ha, Ho, H0, H1, H2, H3, H4⟩
  iapply (cells_load c bd k ho hk) $$ H0; iintro H0
  iapply (cells_load c bd k ho hk) $$ H1; iintro H1
  iapply (cells_load c bd k ho hk) $$ H2; iintro H2
  iapply (cells_load c bd k ho hk) $$ H3; iintro H3
  iapply (cells_load c bd k ho hk) $$ H4; iintro H4
  rw [Prog.pure_eq_ret, wp_ret]; imodintro
  isplitr
  · ipureintro; rw [ha]; rfl
  isplitl [Ho]; · iexact Ho
  isplitl [H0]; · iexact H0
  isplitl [H1]; · iexact H1
  isplitl [H2]; · iexact H2
  isplitl [H3]; · iexact H3
  iexact H4

set_option maxHeartbeats 1600000 in
/-- The outer loop's body meets the specification, by induction on the blocks to go. -/
theorem spec1_le (c : Dev nD) (P : Planes F) :
    ∀ (k ci : ℕ) (go : BitVec 1) (s : St F), ci + k = 20 → s.t ≤ 1000 → (go = 1#1 → 0 < k) → ∀ K, spec1 c P k ci go s K
      ⊢ wp frame (wpE (defs₀ (F := F)) 𝒱₀ (c : Thread nD τ) (some (1001 * k))) Set.univ
          (defs₀ (F := F) .tc 1 ⟨Memref.whole cc0_stg0_0, Memref.isWhole_whole _, Memref.whole cc0_stg1_0, Memref.isWhole_whole _,
            Memref.whole cc0_stg2_0, Memref.isWhole_whole _, Memref.whole cc0_stg3_0, Memref.isWhole_whole _,
            Memref.whole cc0_stg4_0, Memref.isWhole_whole _, scM0_0, Memref.isWhole_whole _, scM0_1, Memref.isWhole_whole _,
            scM0_2, Memref.isWhole_whole _, scM0_3, Memref.isWhole_whole _, scM0_4, Memref.isWhole_whole _, k0_pay2, cols,
            Memref.whole cc0_stg5_0, Memref.isWhole_whole _, BitVec.ofNat 32 ci, BitVec.ofNat 32 s.t, go⟩) K := by
  intro k
  induction k with
  | zero =>
    intro ci go s hck hst hgo K
    rw [spec1_apply]
    show _ ⊢ wp frame (wpE (defs₀ (F := F)) 𝒱₀ (c : Thread nD τ) (some (1001 * 0))) Set.univ (cc0_while1 _ _ _ _ _ _ _ _ _ _ _ _ _ _ _ _ _ _ _ _ _ _ _ _ _ _ _) K
    simp only [cc0_while1_eq_skeleton]; unfold cc0_while1_skel
    have hm : ¬ go = 1#1 := fun h => absurd (hgo h) (lt_irrefl _)
    simp only [hm, ↓reduceIte, Prog.pure_eq_ret]
    iintro ⟨H, Hk⟩
    rw [wp_ret]; imodintro
    iapply Hk
    iexact H
  | succ k ih =>
    intro ci go s hck hst hgo K
    rw [spec1_apply]
    show _ ⊢ wp frame (wpE (defs₀ (F := F)) 𝒱₀ (c : Thread nD τ) (some (1001 * (k + 1)))) Set.univ (cc0_while1 _ _ _ _ _ _ _ _ _ _ _ _ _ _ _ _ _ _ _ _ _ _ _ _ _ _ _) K
    simp only [cc0_while1_eq_skeleton]; unfold cc0_while1_skel
    by_cases hm : go = 1#1
    · have hci : ci < 20 := by omega
      have hi : outer P (k + 1) ci go s = outer P k (ci + 1) (goOn P ci (blockStep P ci s).t) (blockStep P ci s) := by rw [outer, if_pos hm]
      rw [hi]
      simp only [hm, ↓reduceIte]
      simp only [Prog.lift, Prog.bind_op, Prog.bind_ret, Prog.pure_eq_ret, Prog.bind_assoc]
      have hnext := ih (ci + 1) (goOn P ci (blockStep P ci s).t) (blockStep P ci s) (by omega) (blockStep_t_le P ci s hst)
        (fun h => by have := lt_of_goOn hci h; omega)
      unfold planes
      iintro ⟨⟨⟨Hs, Hx1, Hy1, Hx2, Hy2⟩, H⟩, Hk⟩
      iapply (wp_assume 𝒱₀ (c : Thread nD τ) (some _) Set.univ (chk1 ci hci))
      iapply (wp_load 𝒱₀ (c : Thread nD τ) (some _) Set.univ (m := Memref.whole cc0_stg0_0) (Finset.subset_univ _)) $$ Hs; iintro Hs
      iapply (wp_assume 𝒱₀ (c : Thread nD τ) (some _) Set.univ (chk2 ci s.t hci hst _))
      rw [show (Memref.whole cc0_stg0_0).view.readAt (Elt F) (Rect.unit (s := S160x128) (k0_off1 (BitVec.ofNat 32 ci)) S8x128.size (k0_off1_inb _ (chk1 ci hci))).toLoadRect P.s
        = blockOf P.s ci from load_block1 ci hci _ P.s]
      by_cases hc : k0_cond1 (anyGood P ci) = 1#1
      · have hb : blockStep P ci s = inner (chunkOf P ci) (1000 - s.t) (alive0 (chunkOf P ci) s) s := by rw [blockStep, if_pos hc]
        have hc' := hc
        unfold anyGood at hc
        simp only [hc, ↓reduceDIte, Prog.lift, Prog.bind_op, Prog.bind_ret, Prog.pure_eq_ret, Prog.bind_assoc]
        iapply (wp_load 𝒱₀ (c : Thread nD τ) (some _) Set.univ (m := Memref.whole cc0_stg0_0) (Finset.subset_univ _)) $$ Hs; iintro Hs
        iapply (wp_load 𝒱₀ (c : Thread nD τ) (some _) Set.univ (m := Memref.whole cc0_stg1_0) (Finset.subset_univ _)) $$ Hx1; iintro Hx1
        iapply (wp_load 𝒱₀ (c : Thread nD τ) (some _) Set.univ (m := Memref.whole cc0_stg2_0) (Finset.subset_univ _)) $$ Hy1; iintro Hy1
        iapply (wp_load 𝒱₀ (c : Thread nD τ) (some _) Set.univ (m := Memref.whole cc0_stg3_0) (Finset.subset_univ _)) $$ Hx2; iintro Hx2
        iapply (wp_load 𝒱₀ (c : Thread nD τ) (some _) Set.univ (m := Memref.whole cc0_stg4_0) (Finset.subset_univ _)) $$ Hy2; iintro Hy2
        have hw2 := chk2 ci s.t hci hst (anyGood P ci)
        rw [show (Memref.whole cc0_stg0_0).view.readAt (Elt F) (Rect.unit (s := S160x128) (k0_off2 (BitVec.ofNat 32 ci)) S8x128.size (k0_off2_inb _ _ _ hw2 hc')).toLoadRect P.s
            = blockOf P.s ci from load_block2 ci hci _ P.s,
          show (Memref.whole cc0_stg1_0).view.readAt (Elt F) (Rect.unit (s := S160x128) (k0_off2 (BitVec.ofNat 32 ci)) S8x128.size (k0_off2_inb _ _ _ hw2 hc')).toLoadRect P.x1
            = blockOf P.x1 ci from load_block2 ci hci _ P.x1,
          show (Memref.whole cc0_stg2_0).view.readAt (Elt F) (Rect.unit (s := S160x128) (k0_off2 (BitVec.ofNat 32 ci)) S8x128.size (k0_off2_inb _ _ _ hw2 hc')).toLoadRect P.y1
            = blockOf P.y1 ci from load_block2 ci hci _ P.y1,
          show (Memref.whole cc0_stg3_0).view.readAt (Elt F) (Rect.unit (s := S160x128) (k0_off2 (BitVec.ofNat 32 ci)) S8x128.size (k0_off2_inb _ _ _ hw2 hc')).toLoadRect P.x2
            = blockOf P.x2 ci from load_block2 ci hci _ P.x2,
          show (Memref.whole cc0_stg4_0).view.readAt (Elt F) (Rect.unit (s := S160x128) (k0_off2 (BitVec.ofNat 32 ci)) S8x128.size (k0_off2_inb _ _ _ hw2 hc')).toLoadRect P.y2
            = blockOf P.y2 ci from load_block2 ci hci _ P.y2]
        ihave HI : iprop(⌜(k0_pay10 (F := F)) = overlapTo (chunkOf P ci) s.kept 0⌝ ∗ held c s) $$ [H]
        · isplitr
          · ipureintro; rfl
          · iexact H
        iapply (Scf.wp_for_bind frame (wpE (defs₀ (F := F)) 𝒱₀ (c : Thread nD τ) (some (1001 * (k + 1)))) Set.univ 0#32 _ 1#32 (t1_ok s.t hst) _ _
          (fun j acc => iprop(⌜acc = overlapTo (chunkOf P ci) s.kept j⌝ ∗ held c s))
          (fun j acc => kept_pass c _ (chunkOf P ci) s (lt_of_lt_of_eq j.isLt (t1_trips s.t hst)) (off3_eq s.t hst j))) $$ HI
        iintro %acc ⟨%hacc, H⟩
        have hacc' : acc = overlapTo (chunkOf P ci) s.kept s.t := hacc.trans (congrArg _ (t1_trips s.t hst))
        iapply (Scf.wp_for_bind frame (wpE (defs₀ (F := F)) 𝒱₀ (c : Thread nD τ) (some (1001 * (k + 1)))) Set.univ _ _ 1#32 (t2_ok _) _ _
          (fun j acc' => iprop(⌜acc' = acc⌝ ∗ held c s))
          (fun j acc => absurd j.isLt (by show ¬ j.val < (k0_t2_loop (BitVec.ofNat 32 s.t)).trips; rw [t2_trips]; exact Nat.not_lt_zero _))) $$ [H]
        · isplitr
          · ipureintro; rfl
          · iexact H
        iintro %acc' ⟨%hacc2, H⟩
        have hal : k0_pay13 acc' = alive0 (chunkOf P ci) s := by rw [hacc2, hacc']; rfl
        rw [hal]
        iapply (wp_call_spec 𝒱₀ (c : Thread nD τ) (some (1001 * (k + 1))) Set.univ (spec2 c (chunkOf P ci) (1000 - s.t) (alive0 (chunkOf P ci) s) s) (1000 - s.t)
          (fun u hu => by cases hu; exact (by omega : 1000 - s.t < 1001 * (k + 1)))
          (spec2_le c (chunkOf P ci) _ (chk1 ci hci) _ _ hw2 hc' (1000 - s.t) (alive0 (chunkOf P ci) s) s (by omega)))
        rw [spec2_apply]
        isplitl [H]; · iexact H
        iintro %r %hr H
        rw [hr, ← hb, addi_one]
        iapply (wp_call_spec 𝒱₀ (c : Thread nD τ) (some (1001 * (k + 1))) Set.univ (spec1 c P k (ci + 1) (goOn P ci (blockStep P ci s).t) (blockStep P ci s)) (1001 * k)
          (fun u hu => by cases hu; exact (by omega : 1001 * k < 1001 * (k + 1))) hnext)
        rw [spec1_apply]
        unfold planes
        isplitl [Hs Hx1 Hy1 Hx2 Hy2 H]
        · isplitl [Hs Hx1 Hy1 Hx2 Hy2]
          · isplitl [Hs]; · iexact Hs
            isplitl [Hx1]; · iexact Hx1
            isplitl [Hy1]; · iexact Hy1
            isplitl [Hx2]; · iexact Hx2
            iexact Hy2
          · iexact H
        iintro %r' H
        rw [wp_ret]; imodintro
        iapply Hk
        iexact H
      · have hb : blockStep P ci s = s := by rw [blockStep, if_neg hc]
        rw [hb] at hnext ⊢
        unfold anyGood at hc
        simp only [hc, ↓reduceDIte, Prog.lift, Prog.bind_op, Prog.bind_ret, Prog.pure_eq_ret, Prog.bind_assoc]
        rw [addi_one]
        iapply (wp_call_spec 𝒱₀ (c : Thread nD τ) (some (1001 * (k + 1))) Set.univ (spec1 c P k (ci + 1) (goOn P ci s.t) s) (1001 * k)
          (fun u hu => by cases hu; exact (by omega : 1001 * k < 1001 * (k + 1))) hnext)
        rw [spec1_apply]
        unfold planes
        isplitl [Hs Hx1 Hy1 Hx2 Hy2 H]
        · isplitl [Hs Hx1 Hy1 Hx2 Hy2]
          · isplitl [Hs]; · iexact Hs
            isplitl [Hx1]; · iexact Hx1
            isplitl [Hy1]; · iexact Hy1
            isplitl [Hx2]; · iexact Hx2
            iexact Hy2
          · iexact H
        iintro %r H
        rw [wp_ret]; imodintro
        iapply Hk
        iexact H
    · have hi : outer P (k + 1) ci go s = s := by rw [outer, if_neg hm]
      rw [hi]
      simp only [hm, ↓reduceIte, Prog.pure_eq_ret]
      iintro ⟨H, Hk⟩
      rw [wp_ret]; imodintro
      iapply Hk
      iexact H

end Cert.Proof.K

end
-- ==== Proof.Run.lean ====
/-
  The launch: the region's proof data, its body obligation, the run of @main and what it leaves unchanged, over any
  values of the floats.
-/
module

public import proofs.«01_k».proof.Proof.Body

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five planes the region finds on core `c`. -/
def planesAt (c : Dev nD) (t : Fin (cfg0 (F := F)).N) : Planes F :=
  ⟨iblk m c 0 t, iblk m c 1 t, iblk m c 2 t, iblk m c 3 t, iblk m c 4 t⟩

/-- The region's proof data: every plane unchanged, the result as the model computes it. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result (planesAt m c t)
  Φ _ := Pipeline.ΦA spec0 c
  q _ := fullShare
  owed _ := 0

/-- The arrays as the region finds them are those that the lines before it leave. -/
theorem A_eq (c : Dev nD) (w : Fin (cfg0 (F := F)).W) : (dats m 0 c).A w = V m c (Pipeline.arrRef spec0 w) := by
  dsimp only [dats]

/-- After the body the five input windows hold what they held, the sixth the result; one line each. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = result (planesAt m c t) := by dsimp only [dats]; rfl

/-- Before the body the five input windows hold their blocks; one line each. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body -/

/-- What the body is called with, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- A whole buffer held, as a points-to, -/
theorem owns_out (c : Dev nD) (b : Ref sig .tc) (d : b.ty.Contents (Elt F)) :
    (owns (c : Thread nD τ) (Memref.whole b) fullShare d : sProp 𝕄) ⊢ (((c : Thread nD τ).loc b) ↦{fullShare} d) :=
  BIBase.Entails.of_eq (owns_whole (c : Thread nD τ) b fullShare d)

/-- and back. -/
theorem owns_in (c : Dev nD) (b : Ref sig .tc) (d : b.ty.Contents (Elt F)) :
    (((c : Thread nD τ).loc b) ↦{fullShare} d : sProp 𝕄) ⊢ owns (c : Thread nD τ) (Memref.whole b) fullShare d :=
  BIBase.Entails.of_eq (owns_whole (c : Thread nD τ) b fullShare d).symm

/-- A scalar buffer at any contents: none of its elements is known. -/
theorem cells_of (c : Dev nD) (M : Memref sig .tc .smem S1024 .f32) (p : ℕ → Elt F .f32) (g : Buf (Elt F) (M.view.loc (c : Thread nD τ))) :
    (M.view.loc (c : Thread nD τ) ↦{fullShare} g : sProp 𝕄) ⊢ cells c M 0 p := by
  unfold cells
  iintro H
  iexists g
  isplitr
  · ipureintro; exact fun i hi => absurd hi (Nat.not_lt_zero _)
  · iexact H

/-- What is left of the scalar buffer on a whole reference at the end: some contents. -/
theorem cells_any (c : Dev nD) (b : Ref sig .tc) (M : Memref sig .tc .smem S1024 .f32) (t : ℕ) (p : ℕ → Elt F .f32)
    (hM : ∀ g : Buf (Elt F) (M.view.loc (c : Thread nD τ)), (M.view.loc (c : Thread nD τ) ↦{fullShare} g : sProp 𝕄)
      ⊢ iprop(∃ d, owns (c : Thread nD τ) (Memref.whole b) fullShare d)) :
    (cells c M t p : sProp 𝕄) ⊢ iprop(∃ d, owns (c : Thread nD τ) (Memref.whole b) fullShare d) := by
  unfold cells
  iintro ⟨%g, %hg, H⟩
  iapply (hM g)
  iexact H

/-- The whole buffer of a scalar memref, some contents. -/
theorem some_owns (c : Dev nD) (b : Ref sig .tc) (g : b.ty.Contents (Elt F)) :
    (((c : Thread nD τ).loc b) ↦{fullShare} g : sProp 𝕄) ⊢ iprop(∃ d, owns (c : Thread nD τ) (Memref.whole b) fullShare d) := by
  iintro H
  iexists g
  iapply (owns_in c b g)
  iexact H

set_option maxHeartbeats 1600000 in
/-- The body: the result buffer is filled with zeros, no kept box is known, and the outer loop does the rest. -/
theorem body_run (c : Dev nD) (P : Planes F) (Y : sProp 𝕄) {D0 D1 D2 D3 D4 D5 : Type} (d5 : D5 → Vec F S1000x8 .f32) :
    iprop((((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) ∗ Y
        ∗ (∃ _ : D0, owns (c : Thread nD τ) (Memref.whole cc0_stg0_0) fullShare P.s)
        ∗ (∃ _ : D1, owns (c : Thread nD τ) (Memref.whole cc0_stg1_0) fullShare P.x1)
        ∗ (∃ _ : D2, owns (c : Thread nD τ) (Memref.whole cc0_stg2_0) fullShare P.y1)
        ∗ (∃ _ : D3, owns (c : Thread nD τ) (Memref.whole cc0_stg3_0) fullShare P.x2)
        ∗ (∃ _ : D4, owns (c : Thread nD τ) (Memref.whole cc0_stg4_0) fullShare P.y2)
        ∗ (∃ d, owns (c : Thread nD τ) (Memref.whole cc0_stg5_0) fullShare (d5 d)))
      ⊢ wp frame (wpE (defs₀ (F := F)) 𝒱₀ (c : Thread nD τ) none) Set.univ (cc0__nms_kernel (Memref.whole cc0_stg0_0) (Memref.isWhole_whole _)
          (Memref.whole cc0_stg1_0) (Memref.isWhole_whole _) (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _) scM0_0 (Memref.isWhole_whole _) scM0_1 (Memref.isWhole_whole _)
          scM0_2 (Memref.isWhole_whole _) scM0_3 (Memref.isWhole_whole _) scM0_4 (Memref.isWhole_whole _))
        (fun _ => iprop((((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) ∗ Y
        ∗ owns (c : Thread nD τ) (Memref.whole cc0_stg0_0) fullShare P.s ∗ owns (c : Thread nD τ) (Memref.whole cc0_stg1_0) fullShare P.x1
        ∗ owns (c : Thread nD τ) (Memref.whole cc0_stg2_0) fullShare P.y1 ∗ owns (c : Thread nD τ) (Memref.whole cc0_stg3_0) fullShare P.x2
        ∗ owns (c : Thread nD τ) (Memref.whole cc0_stg4_0) fullShare P.y2 ∗ owns (c : Thread nD τ) (Memref.whole cc0_stg5_0) fullShare (result P))) := by
  simp only [cc0__nms_kernel_eq_skeleton]; unfold cc0__nms_kernel_skel
  simp only [Prog.lift, Prog.bind_op, Prog.bind_ret, Prog.pure_eq_ret, Prog.bind_assoc]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%e5, H5⟩⟩
  ihave H0 := (owns_out c cc0_stg0_0 _) $$ H0
  ihave H1 := (owns_out c cc0_stg1_0 _) $$ H1
  ihave H2 := (owns_out c cc0_stg2_0 _) $$ H2
  ihave H3 := (owns_out c cc0_stg3_0 _) $$ H3
  ihave H4 := (owns_out c cc0_stg4_0 _) $$ H4
  ihave H5 := (owns_out c cc0_stg5_0 _) $$ H5
  ihave S0 := (owns_out c cc0_scratch0 _) $$ S0
  ihave S1 := (owns_out c cc0_scratch1 _) $$ S1
  ihave S2 := (owns_out c cc0_scratch2 _) $$ S2
  ihave S3 := (owns_out c cc0_scratch3 _) $$ S3
  ihave S4 := (owns_out c cc0_scratch4 _) $$ S4
  iapply (wp_load 𝒱₀ (c : Thread nD τ) none Set.univ (m := Memref.whole cc0_stg5_0) (Finset.subset_univ _)) $$ H5; iintro H5
  iapply (wp_store 𝒱₀ (c : Thread nD τ) none Set.univ (m := Memref.whole cc0_stg5_0)
    (r := Rect.unit (s := S1000x8) ![0, 0] S1000x8.size inb_S1000x8_S1000x8_0_0) (Mk := Finset.univ) (Finset.subset_univ _)) $$ H5; iintro H5
  rw [show ((Memref.whole cc0_stg5_0).access (Rect.unit (s := S1000x8) ![0, 0] S1000x8.size inb_S1000x8_S1000x8_0_0)).write (Elt F) (d5 e5) (k0_pay1 (F := F)) Finset.univ
    = k0_pay1 from Memref.write_access_unit_zero_univ (Elt F) cc0_stg5_0 (funext fun a => by fin_cases a <;> rfl) _ (d5 e5) k0_pay1]
  ihave S0 := (cells_of c scM0_0 (fun k => (start.kept k : Kept F).x1) _) $$ S0
  ihave S1 := (cells_of c scM0_1 (fun k => (start.kept k : Kept F).y1) _) $$ S1
  ihave S2 := (cells_of c scM0_2 (fun k => (start.kept k : Kept F).x2) _) $$ S2
  ihave S3 := (cells_of c scM0_3 (fun k => (start.kept k : Kept F).y2) _) $$ S3
  ihave S4 := (cells_of c scM0_4 (fun k => (start.kept k : Kept F).ar) _) $$ S4
  iapply (wp_call_spec 𝒱₀ (c : Thread nD τ) none Set.univ (spec1 c P 20 0 1#1 start)
    (1001 * 20) (fun u hu => nomatch hu) (spec1_le c _ 20 0 1#1 start rfl (Nat.zero_le _) (fun _ => by decide)))
  rw [spec1_apply]
  unfold planes held
  isplitl [H0 H1 H2 H3 H4 H5 S0 S1 S2 S3 S4]
  · isplitl [H0 H1 H2 H3 H4]
    · isplitl [H0]; · iexact H0
      isplitl [H1]; · iexact H1
      isplitl [H2]; · iexact H2
      isplitl [H3]; · iexact H3
      iexact H4
    · isplitl [H5]; · iexact H5
      isplitl [S0]; · iexact S0
      isplitl [S1]; · iexact S1
      isplitl [S2]; · iexact S2
      isplitl [S3]; · iexact S3
      iexact S4
  iintro %r ⟨⟨H0, H1, H2, H3, H4⟩, H5, S0, S1, S2, S3, S4⟩
  rw [wp_ret]; imodintro
  isplitl [S0 S1 S2 S3 S4 Hg]
  · isplitl [S0 S1 S2 S3 S4]
    · isplitl [S0]; · iapply (cells_any c cc0_scratch0 scM0_0 _ _ (some_owns c cc0_scratch0)); iexact S0
      isplitl [S1]; · iapply (cells_any c cc0_scratch1 scM0_1 _ _ (some_owns c cc0_scratch1)); iexact S1
      isplitl [S2]; · iapply (cells_any c cc0_scratch2 scM0_2 _ _ (some_owns c cc0_scratch2)); iexact S2
      isplitl [S3]; · iapply (cells_any c cc0_scratch3 scM0_3 _ _ (some_owns c cc0_scratch3)); iexact S3
      iapply (cells_any c cc0_scratch4 scM0_4 _ _ (some_owns c cc0_scratch4)); iexact S4
    iexact Hg
  isplitl [Ho]; · iexact Ho
  isplitl [H0]; · iapply (owns_in c cc0_stg0_0); iexact H0
  isplitl [H1]; · iapply (owns_in c cc0_stg1_0); iexact H1
  isplitl [H2]; · iapply (owns_in c cc0_stg2_0); iexact H2
  isplitl [H3]; · iapply (owns_in c cc0_stg3_0); iexact H3
  isplitl [H4]; · iapply (owns_in c cc0_stg4_0); iexact H4
  iapply (owns_in c cc0_stg5_0); iexact H5

set_option maxHeartbeats 1600000 in
/-- The same between the obligation's two statements. -/
theorem sound_body (c : Dev nD) (t : Fin (cfg0 (F := F)).N) :
    bodyPre m c t ⊢ wp frame (wpE (defs₀ (F := F)) 𝒱₀ c none) Set.univ (bodyAt0 t) (fun _ => bodyPost m c t) := by
  obtain rfl := fin_N0 t
  unfold bodyPre bodyPost
  simp only [before0_0, before0_1, before0_2, before0_3, before0_4]
  rw [show (dats m 0 c).Φ t0_0.succ = (dats m 0 c).Φ t0_0.castSucc from rfl,
    show (dats m 0 c).owesAt () t0_0.succ = (dats m 0 c).owesAt () t0_0.castSucc from rfl,
    after0_0, after0_1, after0_2, after0_3, after0_4, after0_5]
  rw [show (dats m 0 c).Φ t0_0.castSucc = Pipeline.ΦA spec0 c from rfl, PhiA0_eq]
  rw [show ms0_0 (F := F) t0_0 = Memref.whole cc0_stg0_0 from rfl, show ms0_1 (F := F) t0_0 = Memref.whole cc0_stg1_0 from rfl,
    show ms0_2 (F := F) t0_0 = Memref.whole cc0_stg2_0 from rfl, show ms0_3 (F := F) t0_0 = Memref.whole cc0_stg3_0 from rfl,
    show ms0_4 (F := F) t0_0 = Memref.whole cc0_stg4_0 from rfl, show ms0_5 (F := F) t0_0 = Memref.whole cc0_stg5_0 from rfl]
  unfold planesAt
  generalize (dats m 0 c).before 5 t0_0 = d5
  generalize (dats m 0 c).owesAt () t0_0.castSucc = Y
  generalize iblk m c 0 t0_0 = x0
  generalize iblk m c 1 t0_0 = x1
  generalize iblk m c 2 t0_0 = x2
  generalize iblk m c 3 t0_0 = x3
  generalize iblk m c 4 t0_0 = x4
  exact body_run c ⟨x0, x1, x2, x3, x4⟩ Y d5

/-- The region's body at a grid point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body meets what the pipeline asks of it. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- From any memory every run of @main ends, every array of the region at what the proof data compute and every other
    buffer as the lines after the region leave it, and every semaphore at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m) (hA := A_eq m) (hΦ := fun _ _ => rfl)

/-- Every run ends with the four arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.K

end
-- ==== Proof.RefOps.lean ====
/-
  The operations of the reference program as lists: before its loop, the loop's test, one step of the loop, after it.
-/
module

public import proofs.«01_k».proof.ReferenceIdeal
public import proofs.«01_k».proof.Proof.Gen.ReferenceIdeal
public import Idealize.ShloMosaic.Lib.StableHlo.RunLoop

@[expose] public section

set_option maxRecDepth 16384

noncomputable section

namespace Cert.Proof.R

open Cert.ReferenceIdeal Cert.ReferenceIdeal.Gen
open Idealize.ShloMosaic Idealize.ShloMosaic.TcCoe
open Idealize.SL.Sem

variable {F : FTy → Type} [FloatOps F]

/-- The operations before the loop: the two lists of boxes and of scores joined, the counting vector, zeros for the results. -/
abbrev pre0 : List (HloOp τ sig (Elt F)) :=
  [ StableHlo.binary main_arg0 main_arg2 main_v0 ((fun a b => concatenate S20000x4 0 [⟨S10000x4, a⟩, ⟨S10000x4, b⟩] concatenates_S10000x4_S10000x4_S20000x4_d0) : (⟨S10000x4, .f32⟩ : BufTy).Contents (Elt F) → (⟨S10000x4, .f32⟩ : BufTy).Contents (Elt F) → (⟨S20000x4, .f32⟩ : BufTy).Contents (Elt F)),
    StableHlo.binary main_arg1 main_arg3 main_v1 ((fun a b => concatenate S20000 0 [⟨S10000, a⟩, ⟨S10000, b⟩] concatenates_S10000_S10000_S20000_d0) : (⟨S10000, .f32⟩ : BufTy).Contents (Elt F) → (⟨S10000, .f32⟩ : BufTy).Contents (Elt F) → (⟨S20000, .f32⟩ : BufTy).Contents (Elt F)),
    StableHlo.nullary main_v2 (iotaInDim S20000 32 0),
    StableHlo.nullary main_cst (constant S_ .f32 0x00000000#32),
    StableHlo.unary main_cst main_v3 (broadcastInDim S1000 ![] bcast_S_S1000 : (⟨S_, .f32⟩ : BufTy).Contents (Elt F) → (⟨S1000, .f32⟩ : BufTy).Contents (Elt F)),
    StableHlo.nullary main_cst_0 (constant S_ .f32 0x00000000#32),
    StableHlo.unary main_cst_0 main_v4 (broadcastInDim S1000x4 ![] bcast_S_S1000x4 : (⟨S_, .f32⟩ : BufTy).Contents (Elt F) → (⟨S1000x4, .f32⟩ : BufTy).Contents (Elt F)),
    StableHlo.nullary main_c (constantI S_ 32 0#32),
    StableHlo.unary main_v0 main_v5_0 id,
    StableHlo.unary main_v2 main_v5_1 id,
    StableHlo.unary main_c main_v5_2 id,
    StableHlo.unary main_v1 main_v5_3 id,
    StableHlo.unary main_v3 main_v5_4 id,
    StableHlo.unary main_v4 main_v5_5 id ]

/-- Each of these operations reads and writes buffers of the TensorCore only. -/
theorem pre0_sub : (pre0 : List (HloOp τ sig (Elt F))).Forall fun op => op.bufs ⊆ StableHlo.tcRefs τ sig :=
  ⟨StableHlo.binary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- The test of the loop: the counter against 1000. -/
abbrev cond0 : List (HloOp τ sig (Elt F)) :=
  [ StableHlo.nullary main_while0c_c_12 (constantI S_ 32 1000#32),
    StableHlo.binary main_v5_2 main_while0c_c_12 main_while0c_v32 (cmpi .slt : (⟨S_, .i32⟩ : BufTy).Contents (Elt F) → (⟨S_, .i32⟩ : BufTy).Contents (Elt F) → (⟨S_, .i1⟩ : BufTy).Contents (Elt F)) ]

/-- Each of these operations reads and writes buffers of the TensorCore only. -/
theorem cond0_sub : (cond0 : List (HloOp τ sig (Elt F))).Forall fun op => op.bufs ⊆ StableHlo.tcRefs τ sig :=
  ⟨StableHlo.nullary_bufs_sub .., StableHlo.binary_bufs_sub ..⟩

/-- The place of the largest score left (one scan step, part 1). -/
abbrev body0 : List (HloOp τ sig (Elt F)) :=
  [ StableHlo.TRef.nullary (.of main_while0b_call0_v0 : StableHlo.TRef sig ⟨S20000, .i32⟩) (iotaInDim S20000 32 0),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_v5_3 : StableHlo.TRef sig ⟨S20000, .f32⟩) (.of main_while0b_call0_v0 : StableHlo.TRef sig ⟨S20000, .i32⟩) (.of main_while0b_call0_cst : StableHlo.TRef sig ⟨S_, .f32⟩) (.of main_while0b_call0_c : StableHlo.TRef sig ⟨S_, .i32⟩) (.of main_while0b_call0_v1_0 : StableHlo.TRef sig ⟨S_, .f32⟩) (fun x y u v j => (Host.argReduce reducer_argmax_f32_i32 x y u v reducesTo_S20000_S_d0 h_S_ j).1),
    StableHlo.TRef.quaternary (.of main_v5_3 : StableHlo.TRef sig ⟨S20000, .f32⟩) (.of main_while0b_call0_v0 : StableHlo.TRef sig ⟨S20000, .i32⟩) (.of main_while0b_call0_cst : StableHlo.TRef sig ⟨S_, .f32⟩) (.of main_while0b_call0_c : StableHlo.TRef sig ⟨S_, .i32⟩) (.of main_while0b_v32 : StableHlo.TRef sig ⟨S_, .i32⟩) (fun x y u v j => (Host.argReduce reducer_argmax_f32_i32 x y u v reducesTo_S20000_S_d0 h_S_ j).2) ]

/-- Each of these operations reads and writes buffers of the TensorCore only. -/
theorem body0_sub : (body0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The score and the box at that place, and the corners of its intersection with every box. -/
abbrev body1 : List (HloOp τ sig (Elt F)) :=
  [ StableHlo.nullary main_while0b_c_12 (constantI S_ 32 0#32),
    StableHlo.binary main_while0b_v32 main_while0b_c_12 main_while0b_v33 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 20000#32),
    StableHlo.binary main_while0b_v32 main_while0b_c_13 main_while0b_v34 (addi : (⟨S_, .i32⟩ : BufTy).Contents (Elt F) → (⟨S_, .i32⟩ : BufTy).Contents (Elt F) → (⟨S_, .i32⟩ : BufTy).Contents (Elt F)),
    StableHlo.ternary main_while0b_v33 main_while0b_v34 main_while0b_v32 main_while0b_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_3 ![main_while0b_v35] ⟨S_, .i32⟩ main_while0b_v36 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)),
    StableHlo.reshape main_while0b_v36 main_while0b_v37 (rfl : (.f32 : EltTy) = .f32) shapeCasts_S1_S_,
    StableHlo.nullary main_while0b_c_14 (constantI S_ 32 0#32),
    StableHlo.binary main_while0b_v32 main_while0b_c_14 main_while0b_v38 (cmpi .slt : (⟨S_, .i32⟩ : BufTy).Contents (Elt F) → (⟨S_, .i32⟩ : BufTy).Contents (Elt F) → (⟨S_, .i1⟩ : BufTy).Contents (Elt F)),
    StableHlo.nullary main_while0b_c_15 (constantI S_ 32 20000#32),
    StableHlo.binary main_while0b_v32 main_while0b_c_15 main_while0b_v39 (addi : (⟨S_, .i32⟩ : BufTy).Contents (Elt F) → (⟨S_, .i32⟩ : BufTy).Contents (Elt F) → (⟨S_, .i32⟩ : BufTy).Contents (Elt F)),
    StableHlo.ternary main_while0b_v38 main_while0b_v39 main_while0b_v32 main_while0b_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.nullary main_while0b_c_17 (constantI S_ 32 0#32),
    StableHlo.binary main_while0b_c_16 main_while0b_c_17 main_while0b_v41 (cmpi .slt : (⟨S_, .i32⟩ : BufTy).Contents (Elt F) → (⟨S_, .i32⟩ : BufTy).Contents (Elt F) → (⟨S_, .i1⟩ : BufTy).Contents (Elt F)),
    StableHlo.nullary main_while0b_c_18 (constantI S_ 32 0#32),
    StableHlo.nullary main_while0b_c_19 (constantI S_ 32 4#32),
    StableHlo.binary main_while0b_c_18 main_while0b_c_19 main_while0b_v42 (addi : (⟨S_, .i32⟩ : BufTy).Contents (Elt F) → (⟨S_, .i32⟩ : BufTy).Contents (Elt F) → (⟨S_, .i32⟩ : BufTy).Contents (Elt F)),
    StableHlo.nullary main_while0b_c_20 (constantI S_ 32 0#32),
    StableHlo.ternary main_while0b_v41 main_while0b_v42 main_while0b_c_20 main_while0b_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_0 ![main_while0b_v40, main_while0b_v43] ⟨S_, .i32⟩ main_while0b_v44 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F)),
    StableHlo.reshape main_while0b_v44 main_while0b_v45 (rfl : (.f32 : EltTy) = .f32) shapeCasts_S1x4_S4,
    StableHlo.unary main_while0b_v45 main_while0b_v46 ((extractStridedSlice S1 ![0] · slices_S4_S1_0) : (⟨S4, .f32⟩ : BufTy).Contents (Elt F) → (⟨S1, .f32⟩ : BufTy).Contents (Elt F)),
    StableHlo.reshape main_while0b_v46 main_while0b_v47 (rfl : (.f32 : EltTy) = .f32) shapeCasts_S1_S_,
    StableHlo.unary main_v5_0 main_while0b_v48 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v48 main_while0b_v49 (rfl : (.f32 : EltTy) = .f32) shapeCasts_S20000x1_S20000,
    StableHlo.unary main_while0b_v47 main_while0b_v50 (broadcastInDim S20000 ![] bcast_S_S20000 : (⟨S_, .f32⟩ : BufTy).Contents (Elt F) → (⟨S20000, .f32⟩ : BufTy).Contents (Elt F)),
    StableHlo.binary main_while0b_v50 main_while0b_v49 main_while0b_v51 (maximumf : (⟨S20000, .f32⟩ : BufTy).Contents (Elt F) → (⟨S20000, .f32⟩ : BufTy).Contents (Elt F) → (⟨S20000, .f32⟩ : BufTy).Contents (Elt F)),
    StableHlo.unary main_while0b_v45 main_while0b_v52 ((extractStridedSlice S1 ![1] · slices_S4_S1_1) : (⟨S4, .f32⟩ : BufTy).Contents (Elt F) → (⟨S1, .f32⟩ : BufTy).Contents (Elt F)),
    StableHlo.reshape main_while0b_v52 main_while0b_v53 (rfl : (.f32 : EltTy) = .f32) shapeCasts_S1_S_,
    StableHlo.unary main_v5_0 main_while0b_v54 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v54 main_while0b_v55 (rfl : (.f32 : EltTy) = .f32) shapeCasts_S20000x1_S20000,
    StableHlo.unary main_while0b_v53 main_while0b_v56 (broadcastInDim S20000 ![] bcast_S_S20000 : (⟨S_, .f32⟩ : BufTy).Contents (Elt F) → (⟨S20000, .f32⟩ : BufTy).Contents (Elt F)),
    StableHlo.binary main_while0b_v56 main_while0b_v55 main_while0b_v57 (maximumf : (⟨S20000, .f32⟩ : BufTy).Contents (Elt F) → (⟨S20000, .f32⟩ : BufTy).Contents (Elt F) → (⟨S20000, .f32⟩ : BufTy).Contents (Elt F)),
    StableHlo.unary main_while0b_v45 main_while0b_v58 ((extractStridedSlice S1 ![2] · slices_S4_S1_2) : (⟨S4, .f32⟩ : BufTy).Contents (Elt F) → (⟨S1, .f32⟩ : BufTy).Contents (Elt F)),
    StableHlo.reshape main_while0b_v58 main_while0b_v59 (rfl : (.f32 : EltTy) = .f32) shapeCasts_S1_S_,
    StableHlo.unary main_v5_0 main_while0b_v60 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v60 main_while0b_v61 (rfl : (.f32 : EltTy) = .f32) shapeCasts_S20000x1_S20000,
    StableHlo.unary main_while0b_v59 main_while0b_v62 (broadcastInDim S20000 ![] bcast_S_S20000 : (⟨S_, .f32⟩ : BufTy).Contents (Elt F) → (⟨S20000, .f32⟩ : BufTy).Contents (Elt F)),
    StableHlo.binary main_while0b_v62 main_while0b_v61 main_while0b_v63 (minimumf : (⟨S20000, .f32⟩ : BufTy).Contents (Elt F) → (⟨S20000, .f32⟩ : BufTy).Contents (Elt F) → (⟨S20000, .f32⟩ : BufTy).Contents (Elt F)),
    StableHlo.unary main_while0b_v45 main_while0b_v64 ((extractStridedSlice S1 ![3] · slices_S4_S1_3) : (⟨S4, .f32⟩ : BufTy).Contents (Elt F) → (⟨S1, .f32⟩ : BufTy).Contents (Elt F)),
    StableHlo.reshape main_while0b_v64 main_while0b_v65 (rfl : (.f32 : EltTy) = .f32) shapeCasts_S1_S_,
    StableHlo.unary main_v5_0 main_while0b_v66 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v66 main_while0b_v67 (rfl : (.f32 : EltTy) = .f32) shapeCasts_S20000x1_S20000,
    StableHlo.unary main_while0b_v65 main_while0b_v68 (broadcastInDim S20000 ![] bcast_S_S20000 : (⟨S_, .f32⟩ : BufTy).Contents (Elt F) → (⟨S20000, .f32⟩ : BufTy).Contents (Elt F)),
    StableHlo.binary main_while0b_v68 main_while0b_v67 main_while0b_v69 (minimumf : (⟨S20000, .f32⟩ : BufTy).Contents (Elt F) → (⟨S20000, .f32⟩ : BufTy).Contents (Elt F) → (⟨S20000, .f32⟩ : BufTy).Contents (Elt F)),
    StableHlo.binary main_while0b_v63 main_while0b_v51 main_while0b_v70 (subf : (⟨S20000, .f32⟩ : BufTy).Contents (Elt F) → (⟨S20000, .f32⟩ : BufTy).Contents (Elt F) → (⟨S20000, .f32⟩ : BufTy).Contents (Elt F)),
    StableHlo.nullary main_while0b_cst_21 (constant S_ .f32 0x00000000#32) ]

/-- Each of these operations reads and writes buffers of the TensorCore only. -/
theorem body1_sub : (body1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub ..⟩

/-- The width of the intersections, cut off at zero. -/
abbrev body2 : List (HloOp τ sig (Elt F)) :=
  [ StableHlo.TRef.unary (.of main_while0b_cst_21 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S20000, .f32⟩) (broadcastInDim S20000 ![] bcast_S_S20000),
    StableHlo.TRef.binary (.of main_while0b_call1_v1 : StableHlo.TRef sig ⟨S20000, .f32⟩) (.of main_while0b_v70 : StableHlo.TRef sig ⟨S20000, .f32⟩) (.of main_while0b_v71 : StableHlo.TRef sig ⟨S20000, .f32⟩) maximumf ]

/-- Each of these operations reads and writes buffers of the TensorCore only. -/
theorem body2_sub : (body2 : List (HloOp τ sig (Elt F))).Forall fun op => op.bufs ⊆ StableHlo.tcRefs τ sig :=
  ⟨StableHlo.unary_bufs_sub .., StableHlo.unary_bufs_sub .., StableHlo.binary_bufs_sub ..⟩

/-- The heights of the intersections. -/
abbrev body3 : List (HloOp τ sig (Elt F)) :=
  [ StableHlo.binary main_while0b_v69 main_while0b_v57 main_while0b_v72 (subf : (⟨S20000, .f32⟩ : BufTy).Contents (Elt F) → (⟨S20000, .f32⟩ : BufTy).Contents (Elt F) → (⟨S20000, .f32⟩ : BufTy).Contents (Elt F)),
    StableHlo.nullary main_while0b_cst_22 (constant S_ .f32 0x00000000#32) ]

/-- Each of these operations reads and writes buffers of the TensorCore only. -/
theorem body3_sub : (body3 : List (HloOp τ sig (Elt F))).Forall fun op => op.bufs ⊆ StableHlo.tcRefs τ sig :=
  ⟨StableHlo.binary_bufs_sub .., StableHlo.nullary_bufs_sub ..⟩

/-- The heights of the intersections, cut off at zero. -/
abbrev body4 : List (HloOp τ sig (Elt F)) :=
  [ StableHlo.TRef.unary (.of main_while0b_cst_22 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S20000, .f32⟩) (broadcastInDim S20000 ![] bcast_S_S20000),
    StableHlo.TRef.binary (.of main_while0b_call2_v1 : StableHlo.TRef sig ⟨S20000, .f32⟩) (.of main_while0b_v72 : StableHlo.TRef sig ⟨S20000, .f32⟩) (.of main_while0b_v73 : StableHlo.TRef sig ⟨S20000, .f32⟩) maximumf ]

/-- Each of these operations reads and writes buffers of the TensorCore only. -/
theorem body4_sub : (body4 : List (HloOp τ sig (Elt F))).Forall fun op => op.bufs ⊆ StableHlo.tcRefs τ sig :=
  ⟨StableHlo.unary_bufs_sub .., StableHlo.unary_bufs_sub .., StableHlo.binary_bufs_sub ..⟩

/-- The areas of the intersections, and two sides of the box taken. -/
abbrev body5 : List (HloOp τ sig (Elt F)) :=
  [ StableHlo.binary main_while0b_v71 main_while0b_v73 main_while0b_v74 (mulf : (⟨S20000, .f32⟩ : BufTy).Contents (Elt F) → (⟨S20000, .f32⟩ : BufTy).Contents (Elt F) → (⟨S20000, .f32⟩ : BufTy).Contents (Elt F)),
    StableHlo.unary main_while0b_v45 main_while0b_v75 ((extractStridedSlice S1 ![2] · slices_S4_S1_2) : (⟨S4, .f32⟩ : BufTy).Contents (Elt F) → (⟨S1, .f32⟩ : BufTy).Contents (Elt F)),
    StableHlo.reshape main_while0b_v75 main_while0b_v76 (rfl : (.f32 : EltTy) = .f32) shapeCasts_S1_S_,
    StableHlo.unary main_while0b_v45 main_while0b_v77 ((extractStridedSlice S1 ![0] · slices_S4_S1_0) : (⟨S4, .f32⟩ : BufTy).Contents (Elt F) → (⟨S1, .f32⟩ : BufTy).Contents (Elt F)),
    StableHlo.reshape main_while0b_v77 main_while0b_v78 (rfl : (.f32 : EltTy) = .f32) shapeCasts_S1_S_,
    StableHlo.binary main_while0b_v76 main_while0b_v78 main_while0b_v79 (subf : (⟨S_, .f32⟩ : BufTy).Contents (Elt F) → (⟨S_, .f32⟩ : BufTy).Contents (Elt F) → (⟨S_, .f32⟩ : BufTy).Contents (Elt F)),
    StableHlo.unary main_while0b_v45 main_while0b_v80 ((extractStridedSlice S1 ![3] · slices_S4_S1_3) : (⟨S4, .f32⟩ : BufTy).Contents (Elt F) → (⟨S1, .f32⟩ : BufTy).Contents (Elt F)) ]

/-- Each of these operations reads and writes buffers of the TensorCore only. -/
theorem body5_sub : (body5 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub ..⟩

/-- The area of the box taken, all other areas, the overlap ratios, and which boxes the step drops. -/
abbrev body6 : List (HloOp τ sig (Elt F)) :=
  [ StableHlo.reshape main_while0b_v80 main_while0b_v81 (rfl : (.f32 : EltTy) = .f32) shapeCasts_S1_S_,
    StableHlo.unary main_while0b_v45 main_while0b_v82 ((extractStridedSlice S1 ![1] · slices_S4_S1_1) : (⟨S4, .f32⟩ : BufTy).Contents (Elt F) → (⟨S1, .f32⟩ : BufTy).Contents (Elt F)),
    StableHlo.reshape main_while0b_v82 main_while0b_v83 (rfl : (.f32 : EltTy) = .f32) shapeCasts_S1_S_,
    StableHlo.binary main_while0b_v81 main_while0b_v83 main_while0b_v84 (subf : (⟨S_, .f32⟩ : BufTy).Contents (Elt F) → (⟨S_, .f32⟩ : BufTy).Contents (Elt F) → (⟨S_, .f32⟩ : BufTy).Contents (Elt F)),
    StableHlo.binary main_while0b_v79 main_while0b_v84 main_while0b_v85 (mulf : (⟨S_, .f32⟩ : BufTy).Contents (Elt F) → (⟨S_, .f32⟩ : BufTy).Contents (Elt F) → (⟨S_, .f32⟩ : BufTy).Contents (Elt F)),
    StableHlo.unary main_v5_0 main_while0b_v86 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v86 main_while0b_v87 (rfl : (.f32 : EltTy) = .f32) shapeCasts_S20000x1_S20000,
    StableHlo.unary main_v5_0 main_while0b_v88 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v88 main_while0b_v89 (rfl : (.f32 : EltTy) = .f32) shapeCasts_S20000x1_S20000,
    StableHlo.binary main_while0b_v87 main_while0b_v89 main_while0b_v90 (subf : (⟨S20000, .f32⟩ : BufTy).Contents (Elt F) → (⟨S20000, .f32⟩ : BufTy).Contents (Elt F) → (⟨S20000, .f32⟩ : BufTy).Contents (Elt F)),
    StableHlo.unary main_v5_0 main_while0b_v91 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v91 main_while0b_v92 (rfl : (.f32 : EltTy) = .f32) shapeCasts_S20000x1_S20000,
    StableHlo.unary main_v5_0 main_while0b_v93 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v93 main_while0b_v94 (rfl : (.f32 : EltTy) = .f32) shapeCasts_S20000x1_S20000,
    StableHlo.binary main_while0b_v92 main_while0b_v94 main_while0b_v95 (subf : (⟨S20000, .f32⟩ : BufTy).Contents (Elt F) → (⟨S20000, .f32⟩ : BufTy).Contents (Elt F) → (⟨S20000, .f32⟩ : BufTy).Contents (Elt F)),
    StableHlo.binary main_while0b_v90 main_while0b_v95 main_while0b_v96 (mulf : (⟨S20000, .f32⟩ : BufTy).Contents (Elt F) → (⟨S20000, .f32⟩ : BufTy).Contents (Elt F) → (⟨S20000, .f32⟩ : BufTy).Contents (Elt F)),
    StableHlo.unary main_while0b_v85 main_while0b_v97 (broadcastInDim S20000 ![] bcast_S_S20000 : (⟨S_, .f32⟩ : BufTy).Contents (Elt F) → (⟨S20000, .f32⟩ : BufTy).Contents (Elt F)),
    StableHlo.binary main_while0b_v97 main_while0b_v96 main_while0b_v98 (addf : (⟨S20000, .f32⟩ : BufTy).Contents (Elt F) → (⟨S20000, .f32⟩ : BufTy).Contents (Elt F) → (⟨S20000, .f32⟩ : BufTy).Contents (Elt F)),
    StableHlo.binary main_while0b_v98 main_while0b_v74 main_while0b_v99 (subf : (⟨S20000, .f32⟩ : BufTy).Contents (Elt F) → (⟨S20000, .f32⟩ : BufTy).Contents (Elt F) → (⟨S20000, .f32⟩ : BufTy).Contents (Elt F)),
    StableHlo.nullary main_while0b_cst_23 (constant S_ .f32 0x358637BD#32),
    StableHlo.unary main_while0b_cst_23 main_while0b_v100 (broadcastInDim S20000 ![] bcast_S_S20000 : (⟨S_, .f32⟩ : BufTy).Contents (Elt F) → (⟨S20000, .f32⟩ : BufTy).Contents (Elt F)),
    StableHlo.binary main_while0b_v99 main_while0b_v100 main_while0b_v101 (addf : (⟨S20000, .f32⟩ : BufTy).Contents (Elt F) → (⟨S20000, .f32⟩ : BufTy).Contents (Elt F) → (⟨S20000, .f32⟩ : BufTy).Contents (Elt F)),
    StableHlo.binary main_while0b_v74 main_while0b_v101 main_while0b_v102 (Host.divf : (⟨S20000, .f32⟩ : BufTy).Contents (Elt F) → (⟨S20000, .f32⟩ : BufTy).Contents (Elt F) → (⟨S20000, .f32⟩ : BufTy).Contents (Elt F)),
    StableHlo.nullary main_while0b_cst_24 (constant S_ .f32 0x3ECCCCCD#32),
    StableHlo.unary main_while0b_cst_24 main_while0b_v103 (broadcastInDim S20000 ![] bcast_S_S20000 : (⟨S_, .f32⟩ : BufTy).Contents (Elt F) → (⟨S20000, .f32⟩ : BufTy).Contents (Elt F)),
    StableHlo.binary main_while0b_v102 main_while0b_v103 main_while0b_v104 (cmpf .ogt : (⟨S20000, .f32⟩ : BufTy).Contents (Elt F) → (⟨S20000, .f32⟩ : BufTy).Contents (Elt F) → (⟨S20000, .i1⟩ : BufTy).Contents (Elt F)),
    StableHlo.unary main_while0b_v32 main_while0b_v105 (broadcastInDim S20000 ![] bcast_S_S20000 : (⟨S_, .i32⟩ : BufTy).Contents (Elt F) → (⟨S20000, .i32⟩ : BufTy).Contents (Elt F)),
    StableHlo.binary main_v5_1 main_while0b_v105 main_while0b_v106 (cmpi .eq : (⟨S20000, .i32⟩ : BufTy).Contents (Elt F) → (⟨S20000, .i32⟩ : BufTy).Contents (Elt F) → (⟨S20000, .i1⟩ : BufTy).Contents (Elt F)),
    StableHlo.binary main_while0b_v104 main_while0b_v106 main_while0b_v107 (ori : (⟨S20000, .i1⟩ : BufTy).Contents (Elt F) → (⟨S20000, .i1⟩ : BufTy).Contents (Elt F) → (⟨S20000, .i1⟩ : BufTy).Contents (Elt F)),
    StableHlo.nullary main_while0b_cst_25 (constant S_ .f32 0xF149F2CA#32) ]

/-- Each of these operations reads and writes buffers of the TensorCore only. -/
theorem body6_sub : (body6 : List (HloOp τ sig (Elt F))).Forall fun op => op.bufs ⊆ StableHlo.tcRefs τ sig :=
  ⟨StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub ..⟩

/-- The scores left after the step. -/
abbrev body7 : List (HloOp τ sig (Elt F)) :=
  [ StableHlo.TRef.unary (.of main_while0b_cst_25 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000, .f32⟩) (broadcastInDim S20000 ![] bcast_S_S20000),
    StableHlo.TRef.ternary (.of main_while0b_v107 : StableHlo.TRef sig ⟨S20000, .i1⟩) (.of main_while0b_call3_v1 : StableHlo.TRef sig ⟨S20000, .f32⟩) (.of main_v5_3 : StableHlo.TRef sig ⟨S20000, .f32⟩) (.of main_while0b_v108 : StableHlo.TRef sig ⟨S20000, .f32⟩) select ]

/-- Each of these operations reads and writes buffers of the TensorCore only. -/
theorem body7_sub : (body7 : List (HloOp τ sig (Elt F))).Forall fun op => op.bufs ⊆ StableHlo.tcRefs τ sig :=
  ⟨StableHlo.unary_bufs_sub .., StableHlo.unary_bufs_sub .., StableHlo.ternary_bufs_sub ..⟩

/-- The score of the step written to its row. -/
abbrev body8 : List (HloOp τ sig (Elt F)) :=
  [ StableHlo.TRef.unary (.of main_while0b_v37 : StableHlo.TRef sig ⟨S_, .f32⟩) (.of main_while0b_call4_v0 : StableHlo.TRef sig ⟨S1, .f32⟩) (broadcastInDim S1 ![] bcast_S_S1),
    StableHlo.TRef.binaryIndexed (.of main_v5_4 : StableHlo.TRef sig ⟨S1000, .f32⟩) (.of main_while0b_call4_v0 : StableHlo.TRef sig ⟨S1, .f32⟩) ![(.of main_v5_2 : StableHlo.TRef sig ⟨S_, .i32⟩)] (.of main_while0b_v109 : StableHlo.TRef sig ⟨S1000, .f32⟩) (fun x u i => Host.dynamicUpdateSlice x u (fun k => (i k (Shape.Idx.first h_S_)).toInt) updateFits_S1000_S1) ]

/-- Each of these operations reads and writes buffers of the TensorCore only. -/
theorem body8_sub : (body8 : List (HloOp τ sig (Elt F))).Forall fun op => op.bufs ⊆ StableHlo.tcRefs τ sig :=
  ⟨StableHlo.unary_bufs_sub .., StableHlo.binaryIndexed_bufs_sub ..⟩

/-- The box of the step written to its row. -/
abbrev body9 : List (HloOp τ sig (Elt F)) :=
  [ StableHlo.TRef.unary (.of main_while0b_v45 : StableHlo.TRef sig ⟨S4, .f32⟩) (.of main_while0b_call5_v0 : StableHlo.TRef sig ⟨S1x4, .f32⟩) (broadcastInDim S1x4 ![1] bcast_S4_S1x4_1),
    StableHlo.TRef.nullary (.of main_while0b_call5_c : StableHlo.TRef sig ⟨S_, .i32⟩) (constantI S_ 32 0#32),
    StableHlo.TRef.binaryIndexed (.of main_v5_5 : StableHlo.TRef sig ⟨S1000x4, .f32⟩) (.of main_while0b_call5_v0 : StableHlo.TRef sig ⟨S1x4, .f32⟩) ![(.of main_v5_2 : StableHlo.TRef sig ⟨S_, .i32⟩), (.of main_while0b_call5_c : StableHlo.TRef sig ⟨S_, .i32⟩)] (.of main_while0b_v110 : StableHlo.TRef sig ⟨S1000x4, .f32⟩) (fun x u i => Host.dynamicUpdateSlice x u (fun k => (i k (Shape.Idx.first h_S_)).toInt) updateFits_S1000x4_S1x4) ]

/-- Each of these operations reads and writes buffers of the TensorCore only. -/
theorem body9_sub : (body9 : List (HloOp τ sig (Elt F))).Forall fun op => op.bufs ⊆ StableHlo.tcRefs τ sig :=
  ⟨StableHlo.unary_bufs_sub .., StableHlo.nullary_bufs_sub .., StableHlo.binaryIndexed_bufs_sub ..⟩

/-- The counter advanced and the carried values copied back. -/
abbrev body10 : List (HloOp τ sig (Elt F)) :=
  [ StableHlo.nullary main_while0b_c_26 (constantI S_ 32 1#32),
    StableHlo.binary main_v5_2 main_while0b_c_26 main_while0b_v111 (addi : (⟨S_, .i32⟩ : BufTy).Contents (Elt F) → (⟨S_, .i32⟩ : BufTy).Contents (Elt F) → (⟨S_, .i32⟩ : BufTy).Contents (Elt F)),
    StableHlo.unary main_while0b_v111 main_v5_2 id,
    StableHlo.unary main_while0b_v108 main_v5_3 id,
    StableHlo.unary main_while0b_v109 main_v5_4 id,
    StableHlo.unary main_while0b_v110 main_v5_5 id ]

/-- Each of these operations reads and writes buffers of the TensorCore only. -/
theorem body10_sub : (body10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The operations after the loop: which rows are real and large enough, and the six columns. -/
abbrev post0 : List (HloOp τ sig (Elt F)) :=
  [ StableHlo.nullary main_cst_1 (constant S_ .f32 0xF0C9F2CA#32),
    StableHlo.unary main_cst_1 main_v6 (broadcastInDim S1000 ![] bcast_S_S1000 : (⟨S_, .f32⟩ : BufTy).Contents (Elt F) → (⟨S1000, .f32⟩ : BufTy).Contents (Elt F)),
    StableHlo.binary main_v5_4 main_v6 main_v7 (cmpf .ogt : (⟨S1000, .f32⟩ : BufTy).Contents (Elt F) → (⟨S1000, .f32⟩ : BufTy).Contents (Elt F) → (⟨S1000, .i1⟩ : BufTy).Contents (Elt F)),
    StableHlo.nullary main_cst_2 (constant S_ .f32 0x3F000000#32),
    StableHlo.unary main_cst_2 main_v8 (broadcastInDim S1000 ![] bcast_S_S1000 : (⟨S_, .f32⟩ : BufTy).Contents (Elt F) → (⟨S1000, .f32⟩ : BufTy).Contents (Elt F)),
    StableHlo.binary main_v5_4 main_v8 main_v9 (cmpf .oge : (⟨S1000, .f32⟩ : BufTy).Contents (Elt F) → (⟨S1000, .f32⟩ : BufTy).Contents (Elt F) → (⟨S1000, .i1⟩ : BufTy).Contents (Elt F)),
    StableHlo.unary main_v5_5 main_v10 ((extractStridedSlice S1000x1 ![0, 2] · slices_S1000x4_S1000x1_0_2) : (⟨S1000x4, .f32⟩ : BufTy).Contents (Elt F) → (⟨S1000x1, .f32⟩ : BufTy).Contents (Elt F)),
    StableHlo.reshape main_v10 main_v11 (rfl : (.f32 : EltTy) = .f32) shapeCasts_S1000x1_S1000,
    StableHlo.unary main_v5_5 main_v12 ((extractStridedSlice S1000x1 ![0, 0] · slices_S1000x4_S1000x1_0_0) : (⟨S1000x4, .f32⟩ : BufTy).Contents (Elt F) → (⟨S1000x1, .f32⟩ : BufTy).Contents (Elt F)),
    StableHlo.reshape main_v12 main_v13 (rfl : (.f32 : EltTy) = .f32) shapeCasts_S1000x1_S1000,
    StableHlo.binary main_v11 main_v13 main_v14 (subf : (⟨S1000, .f32⟩ : BufTy).Contents (Elt F) → (⟨S1000, .f32⟩ : BufTy).Contents (Elt F) → (⟨S1000, .f32⟩ : BufTy).Contents (Elt F)),
    StableHlo.nullary main_cst_3 (constant S_ .f32 0x42200000#32),
    StableHlo.unary main_cst_3 main_v15 (broadcastInDim S1000 ![] bcast_S_S1000 : (⟨S_, .f32⟩ : BufTy).Contents (Elt F) → (⟨S1000, .f32⟩ : BufTy).Contents (Elt F)),
    StableHlo.binary main_v14 main_v15 main_v16 (cmpf .oge : (⟨S1000, .f32⟩ : BufTy).Contents (Elt F) → (⟨S1000, .f32⟩ : BufTy).Contents (Elt F) → (⟨S1000, .i1⟩ : BufTy).Contents (Elt F)),
    StableHlo.unary main_v5_5 main_v17 ((extractStridedSlice S1000x1 ![0, 3] · slices_S1000x4_S1000x1_0_3) : (⟨S1000x4, .f32⟩ : BufTy).Contents (Elt F) → (⟨S1000x1, .f32⟩ : BufTy).Contents (Elt F)),
    StableHlo.reshape main_v17 main_v18 (rfl : (.f32 : EltTy) = .f32) shapeCasts_S1000x1_S1000,
    StableHlo.unary main_v5_5 main_v19 ((extractStridedSlice S1000x1 ![0, 1] · slices_S1000x4_S1000x1_0_1) : (⟨S1000x4, .f32⟩ : BufTy).Contents (Elt F) → (⟨S1000x1, .f32⟩ : BufTy).Contents (Elt F)),
    StableHlo.reshape main_v19 main_v20 (rfl : (.f32 : EltTy) = .f32) shapeCasts_S1000x1_S1000,
    StableHlo.binary main_v18 main_v20 main_v21 (subf : (⟨S1000, .f32⟩ : BufTy).Contents (Elt F) → (⟨S1000, .f32⟩ : BufTy).Contents (Elt F) → (⟨S1000, .f32⟩ : BufTy).Contents (Elt F)),
    StableHlo.nullary main_cst_4 (constant S_ .f32 0x42200000#32),
    StableHlo.unary main_cst_4 main_v22 (broadcastInDim S1000 ![] bcast_S_S1000 : (⟨S_, .f32⟩ : BufTy).Contents (Elt F) → (⟨S1000, .f32⟩ : BufTy).Contents (Elt F)),
    StableHlo.binary main_v21 main_v22 main_v23 (cmpf .oge : (⟨S1000, .f32⟩ : BufTy).Contents (Elt F) → (⟨S1000, .f32⟩ : BufTy).Contents (Elt F) → (⟨S1000, .i1⟩ : BufTy).Contents (Elt F)),
    StableHlo.binary main_v16 main_v23 main_v24 (andi : (⟨S1000, .i1⟩ : BufTy).Contents (Elt F) → (⟨S1000, .i1⟩ : BufTy).Contents (Elt F) → (⟨S1000, .i1⟩ : BufTy).Contents (Elt F)),
    StableHlo.binary main_v7 main_v9 main_v25 (andi : (⟨S1000, .i1⟩ : BufTy).Contents (Elt F) → (⟨S1000, .i1⟩ : BufTy).Contents (Elt F) → (⟨S1000, .i1⟩ : BufTy).Contents (Elt F)),
    StableHlo.binary main_v25 main_v24 main_v26 (andi : (⟨S1000, .i1⟩ : BufTy).Contents (Elt F) → (⟨S1000, .i1⟩ : BufTy).Contents (Elt F) → (⟨S1000, .i1⟩ : BufTy).Contents (Elt F)),
    StableHlo.nullary main_cst_5 (constant S_ .f32 0x00000000#32),
    StableHlo.unary main_cst_5 main_v27 (broadcastInDim S1000x1 ![] bcast_S_S1000x1 : (⟨S_, .f32⟩ : BufTy).Contents (Elt F) → (⟨S1000x1, .f32⟩ : BufTy).Contents (Elt F)),
    StableHlo.unary main_v5_4 main_v28 (broadcastInDim S1000x1 ![0] bcast_S1000_S1000x1_0 : (⟨S1000, .f32⟩ : BufTy).Contents (Elt F) → (⟨S1000x1, .f32⟩ : BufTy).Contents (Elt F)),
    StableHlo.nary ![main_v27, main_v28, main_v5_5] main_v29 (fun u => (concatenate S1000x6 1 [⟨S1000x1, (u 0 : (⟨S1000x1, .f32⟩ : BufTy).Contents (Elt F))⟩, ⟨S1000x1, (u 1 : (⟨S1000x1, .f32⟩ : BufTy).Contents (Elt F))⟩, ⟨S1000x4, (u 2 : (⟨S1000x4, .f32⟩ : BufTy).Contents (Elt F))⟩] concatenates_S1000x1_S1000x1_S1000x4_S1000x6_d1 : (⟨S1000x6, .f32⟩ : BufTy).Contents (Elt F))),
    StableHlo.unary main_v26 main_v30 (broadcastInDim S1000x1 ![0] bcast_S1000_S1000x1_0 : (⟨S1000, .i1⟩ : BufTy).Contents (Elt F) → (⟨S1000x1, .i1⟩ : BufTy).Contents (Elt F)),
    StableHlo.nullary main_cst_6 (constant S_ .f32 0x00000000#32) ]

/-- Each of these operations reads and writes buffers of the TensorCore only. -/
theorem post0_sub : (post0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.unary_bufs_sub .., StableHlo.nary_bufs_sub .., StableHlo.unary_bufs_sub .., StableHlo.nullary_bufs_sub ..⟩

/-- The rows that do not count set to zero. -/
abbrev post1 : List (HloOp τ sig (Elt F)) :=
  [ StableHlo.TRef.unary (.of main_cst_6 : StableHlo.TRef sig ⟨S_, .f32⟩) (.of main_call6_v0 : StableHlo.TRef sig ⟨S_, .f32⟩) id,
    StableHlo.TRef.unary (.of main_v30 : StableHlo.TRef sig ⟨S1000x1, .i1⟩) (.of main_call6_v1 : StableHlo.TRef sig ⟨S1000x6, .i1⟩) (broadcastInDim S1000x6 ![0, 1] bcast_S1000x1_S1000x6_0_1),
    StableHlo.TRef.unary (.of main_call6_v0 : StableHlo.TRef sig ⟨S_, .f32⟩) (.of main_call6_v2 : StableHlo.TRef sig ⟨S1000x6, .f32⟩) (broadcastInDim S1000x6 ![] bcast_S_S1000x6),
    StableHlo.TRef.ternary (.of main_call6_v1 : StableHlo.TRef sig ⟨S1000x6, .i1⟩) (.of main_v29 : StableHlo.TRef sig ⟨S1000x6, .f32⟩) (.of main_call6_v2 : StableHlo.TRef sig ⟨S1000x6, .f32⟩) (.of main_v31 : StableHlo.TRef sig ⟨S1000x6, .f32⟩) select ]

/-- Each of these operations reads and writes buffers of the TensorCore only. -/
theorem post1_sub : (post1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- One step of the loop, in stretches. -/
abbrev bodyI : List (List (HloOp τ sig (Elt F))) :=
  [body0, body1, body2, body3, body4, body5, body6, body7, body8, body9, body10]

/-- The operations before the loop, as one stretch. -/
abbrev preI : List (List (HloOp τ sig (Elt F))) := [pre0]

/-- The operations after the loop, in stretches. -/
abbrev postI : List (List (HloOp τ sig (Elt F))) := [post0, post1]

/-- No operation before the loop allocates. -/
theorem plain_pre : StableHlo.Plain (preI (F := F)) := .cons pre0_sub .nil

/-- No operation of a step allocates. -/
theorem plain_body : StableHlo.Plain (bodyI (F := F)) :=
  .cons body0_sub <| .cons body1_sub <| .cons body2_sub <| .cons body3_sub <| .cons body4_sub <| .cons body5_sub <|
  .cons body6_sub <| .cons body7_sub <| .cons body8_sub <| .cons body9_sub <| .cons body10_sub .nil

/-- No operation after the loop allocates. -/
theorem plain_post : StableHlo.Plain (postI (F := F)) := .cons post0_sub <| .cons post1_sub .nil

/-- The program is its stretches in order, with the loop between them. -/
theorem main_chain (c : Dev nD) : main (F := F) c = Pipeline.chain
    ((preI.map fun ops => (StableHlo.seq ops : Prog _ PUnit)) ++ HostLoop.enter 0 :: postI.map fun ops => (StableHlo.seq ops : Prog _ PUnit)) := by
  show main (F := F) c = Pipeline.chain [StableHlo.seq pre0, HostLoop.enter 0, StableHlo.seq post0, StableHlo.seq post1]
  rewrite [StableHlo.chain_seq_cons, Pipeline.chain_cons, StableHlo.chain_seq_cons, Pipeline.chain_cons]
  chain_rfl

/-- The first half of a step is its stretches in order. -/
theorem part0_chain : main_while0_body_part0 (F := F) = Pipeline.chainK
    [StableHlo.seq body0, StableHlo.seq body1, StableHlo.seq body2, StableHlo.seq body3, StableHlo.seq body4] (StableHlo.seq body5) := by
  rewrite [Pipeline.chainK_cons, StableHlo.chainK_seq_cons, Pipeline.chainK_cons, StableHlo.chainK_seq_cons, Pipeline.chainK_cons]
  chain_rfl

/-- The second half of a step is its stretches in order. -/
theorem part1_chain : main_while0_body_part1 (F := F) = Pipeline.chain
    [StableHlo.seq body6, StableHlo.seq body7, StableHlo.seq body8, StableHlo.seq body9, StableHlo.seq body10] := by
  rewrite [StableHlo.chain_seq_cons, Pipeline.chain_cons, Pipeline.chain_cons, Pipeline.chain_cons, StableHlo.chain_seq_cons]
  chain_rfl

/-- One step is its stretches in order. -/
theorem body_chain : main_while0_body (F := F) = Pipeline.chain (bodyI.map fun ops => (StableHlo.seq ops : Prog _ PUnit)) := by
  unfold main_while0_body
  rw [part0_chain, part1_chain]
  exact Pipeline.chainK_bind_chain _ _ _

end Cert.Proof.R

end
-- ==== Proof.RefRun.lean ====
/-
  The run of the reference program: its loop makes 1000 steps, and every buffer ends at what the operations leave in it.
-/
module

public import proofs.«01_k».proof.Proof.RefOps
public import Idealize.ShloMosaic.Lib.StableHlo.RunRead
public import Idealize.ShloMosaic.Lib.Scf.ExitTest
public import Idealize.ShloMosaic.Lib.Scf.Counter
public import Idealize.ShloMosaic.Lib.Tactic
public import Idealize.ShloMosaic.Lib.Claim
public import Idealize.ShloMosaic.Lib.Quiescent

@[expose] public section

set_option maxRecDepth 16384

noncomputable section

namespace Cert.Proof.R

open Cert.ReferenceIdeal Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (sub_ucRefs ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-- A round of the loop as one line of operations: the test, then the step. -/
abbrev round : List (HloOp τ sig (Elt F)) := cond0 ++ bodyI.flatten

/-- Every buffer before the `k`-th test of the loop. -/
def at_ (k : ℕ) (c : Dev nD) : Valuation τ sig (Elt F) := atTrip cond0 bodyI (entryContents preI m) k c

/-- Before the first test the operations before the loop have run. -/
theorem at_zero (c : Dev nD) : at_ m 0 c = after pre0 (launchContents m c) := rfl

/-- From one test to the next one round runs. -/
theorem at_succ (k : ℕ) (c : Dev nD) : at_ m (k + 1) c = after round (at_ m k c) := by
  show afterL bodyI (after cond0 (at_ m k c)) = _
  rw [afterL_eq_after_flatten, ← after_append]

/-- The counter of the loop starts at zero. -/
theorem entry_counter (X : Valuation τ sig (Elt F)) :
    after (pre0 (F := F)) X (Proc.devRef .tc main_v5_2) = fun _ => 0#32 := by
  after_reads_simp
  rfl

/-- A round adds one to the counter. -/
theorem round_counter (X : Valuation τ sig (Elt F)) :
    after (round (F := F)) X (Proc.devRef .tc main_v5_2)
      = fun j => IntOp.addi ((X (Proc.devRef .tc main_v5_2) : (⟨S_, .i32⟩ : BufTy).Contents (Elt F)) j) 1#32 := by
  simp only [round, List.flatten_cons, List.flatten_nil, List.cons_append, List.nil_append]
  after_reads_simp
  rfl

/-- Before the `k`-th test the counter is `k`. -/
theorem counter (k : ℕ) (c : Dev nD) : at_ m k c (Proc.devRef .tc main_v5_2) = fun _ => Scf.iv 0#32 1#32 k := by
  induction k with
  | zero => rw [at_zero, entry_counter, Scf.iv_zero]
  | succ k ih => rw [at_succ, round_counter, ih, Scf.iv_succ]; rfl

/-- The test says whether fewer than 1000 steps were made. -/
theorem cond_spec : CondSpec (pcfgs (F := F)) defs₀ loops main_while0_cond cond0 bodyI (entryContents preI m) 1000 := by
  intro k hk c bd
  have hctr := counter m k c
  show iprop(boundary (c : Thread nD τ) ∗ held (c : Thread nD τ) (ucRefs τ sig) (at_ m k c)) ⊢ _
  have hend : after cond0 (atTrip cond0 bodyI (entryContents preI m) k c) = after cond0 (at_ m k c) := rfl
  rw [hend]
  generalize at_ m k c = X at hctr ⊢
  unfold main_while0_cond
  simp only [bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply]
  rw [wp_ret]; imodintro
  isplitr
  · ipureintro
    show Iff (IntOp.cmpi .slt (HloOp.result _ X main_v5_2 HostLoop.idx0)
        (HloOp.result _ X main_while0c_c_12 HostLoop.idx0) = 1#1) (k < 1000)
    rw [StableHlo.nullary_result_ne _ _ _ _ (by decide), StableHlo.nullary_result, hctr]
    exact Scf.cmpi_slt_iv_ub_iff (lb := 0#32) (ub := 1000#32) (st := 1#32) (by decide) hk
  isplitl [Hb]; · iexact Hb
  rw [StableHlo.after_cons, StableHlo.after_cons, StableHlo.after_nil]; iexact Hh

variable [∀ e, Nonempty (Elt F e)]

/-- Every buffer at the end. -/
def final (c : Dev nD) : Valuation τ sig (Elt F) := after (post0 ++ post1) (after cond0 (at_ m 1000 c))

/-- Every run of the reference ends, with every buffer at `final` and every counter at zero. -/
theorem run_main : θ_run (defs (F := F)) (onTc (τ := τ) main) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) := by
  refine (θ_run _ _ _).mono (fun r h c b hb => (h c b hb).trans ?_)
    (run_loop pcfgs defs₀ loops main 0 main_while0_cond main_while0_body rfl preI bodyI postI cond0
      plain_pre plain_body plain_post main_chain body_chain 1000 m ρ (cond_spec m))
  show afterL postI _ _ = _
  rw [afterL_eq_after_flatten]
  rfl

omit [∀ e, Nonempty (Elt F e)] in
/-- A buffer that no operation of the program writes ends as it was. -/
theorem final_of_not_written (c : Dev nD) (b : Ref sig .tc)
    (h : ∀ op ∈ (pre0 ++ round ++ post0 ++ post1 : List (HloOp τ sig (Elt F))), (Proc.devRef .tc b : DevRef τ sig) ∉ op.writes) :
    final m c (Proc.devRef .tc b) = m ((c : Thread nD τ).loc b) := by
  have hk : ∀ k, at_ m k c (Proc.devRef .tc b) = m ((c : Thread nD τ).loc b) := by
    intro k
    induction k with
    | zero =>
      rw [at_zero, after_of_forall_not_mem _ _ fun op ho => h op (by simp only [List.mem_append]; tauto)]
    | succ k ih =>
      rw [at_succ, after_of_forall_not_mem _ _ fun op ho => h op (by simp only [List.mem_append]; simp only [List.mem_append] at ho; tauto), ih]
  unfold final
  rw [after_of_forall_not_mem _ _ fun op ho => h op (by simp only [List.mem_append]; simp only [List.mem_append] at ho; tauto),
    after_of_forall_not_mem _ _ fun op ho => h op (by simp only [List.mem_append]; tauto), hk]

omit [∀ e, Nonempty (Elt F e)] in
/-- The arguments end as they were. -/
theorem final_args (c : Dev nD) :
    final m c (Proc.devRef .tc main_arg0) = m ((c : Thread nD τ).loc main_arg0)
    ∧ final m c (Proc.devRef .tc main_arg1) = m ((c : Thread nD τ).loc main_arg1)
    ∧ final m c (Proc.devRef .tc main_arg2) = m ((c : Thread nD τ).loc main_arg2)
    ∧ final m c (Proc.devRef .tc main_arg3) = m ((c : Thread nD τ).loc main_arg3) := by
  refine ⟨?_, ?_, ?_, ?_⟩ <;>
  · refine final_of_not_written m c _ (List.forall_iff_forall_mem.mp ?_)
    simp only [round, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (by decide)

/-- Every run of the reference ends, with its result as in `final`, its arguments as they were and every counter at zero. -/
theorem run_all : θ_run (defs (F := F)) (onTc (τ := τ) main) ⟨m, fun _ => 0, ρ⟩
    (fun r => (∀ c : Dev nD, r.2.mem ((c.tc : Thread nD τ).loc main_v31) = final m c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => ⟨h c main_v31 rfl, (h c main_arg0 rfl).trans (final_args m c).1,
    (h c main_arg1 rfl).trans (final_args m c).2.1, (h c main_arg2 rfl).trans (final_args m c).2.2.1,
    (h c main_arg3 rfl).trans (final_args m c).2.2.2⟩, sem_eq_zero_of_no_sems rfl _⟩) (run_main m ρ)

end Cert.Proof.R

end
-- ==== Proof.Greedy.lean ====
/-
  The suppression itself, on boxes of extended reals: the overlap of two boxes, which boxes are left after some were
  taken, and the table that comes of it. The boxes stand in a row, in the order in which they are to be looked at; the
  first one left is taken, and with it go all boxes that it overlaps too much.
-/
module

public import Idealize.ShloMosaic.PureOps.Ideal
public import Idealize.ShloMosaic.PureOps.Ideal.Laws

@[expose] public section

noncomputable section

namespace Cert.Proof

open Idealize.ShloMosaic

/-- A box: its score, its first corner and its second. -/
@[ext] structure Box where
  s : EReal
  x1 : EReal
  y1 : EReal
  x2 : EReal
  y2 : EReal

/-- One half: what a box must score. -/
def half : EReal := Ideal.ofBits .f32 0x3F000000#32
/-- Forty: how long a shown box's sides must be. -/
def forty : EReal := Ideal.ofBits .f32 0x42200000#32
/-- The overlap above which a box is dropped, about 0.4. -/
def limit : EReal := Ideal.ofBits .f32 0x3ECCCCCD#32
/-- What is added to a union's area, about a millionth. -/
def eps : EReal := Ideal.ofBits .f32 0x358637BD#32
/-- The lowest score in use, about minus 1e30. -/
def low : EReal := Ideal.ofBits .f32 0xF149F2CA#32
/-- The same with the other sign. -/
def high : EReal := Ideal.ofBits .f32 0x7149F2CA#32

/-- `half` as a real number. -/
theorem half_eq : half = ((1 / 2 : ℝ) : EReal) := by
  unfold half; simp [Ideal.ofBits, Ideal.ieee]; norm_num; rw [← EReal.coe_mul]; norm_num

/-- `limit` as a real number. -/
theorem limit_eq : limit = ((13421773 / 33554432 : ℝ) : EReal) := by
  unfold limit; simp [Ideal.ofBits, Ideal.ieee]; norm_num; rw [← EReal.coe_mul]; norm_num

/-- `eps` as a real number. -/
theorem eps_eq : eps = ((8796093 / 8796093022208 : ℝ) : EReal) := by
  unfold eps; simp [Ideal.ofBits, Ideal.ieee]; norm_num; rw [← EReal.coe_mul]; norm_num

/-- `low` as a real number. -/
theorem low_eq : low = ((-(13234890 * 2 ^ 76) : ℝ) : EReal) := by
  unfold low; simp [Ideal.ofBits, Ideal.ieee]

/-- `high` as a real number. -/
theorem high_eq : high = ((13234890 * 2 ^ 76 : ℝ) : EReal) := by
  unfold high; simp [Ideal.ofBits, Ideal.ieee]

/-- The two bounds are each other's negatives. -/
theorem low_eq_neg : low = -high := by
  rw [low_eq, high_eq, EReal.coe_neg]

/-- The lowest score is not enough. -/
theorem low_lt_half : low < half := by
  rw [low_eq, half_eq, EReal.coe_lt_coe_iff]; norm_num

/-- The limit is positive. -/
theorem limit_pos : 0 < limit := by
  rw [limit_eq]; exact EReal.coe_pos.mpr (by norm_num)

/-- A box's area. -/
def Box.area (b : Box) : EReal := (b.x2 - b.x1) * (b.y2 - b.y1)

/-- The area that two boxes share. -/
def inter (h q : Box) : EReal :=
  max (min h.x2 q.x2 - max h.x1 q.x1) 0 * max (min h.y2 q.y2 - max h.y1 q.y1) 0

/-- Their overlap ratio: the shared area over that of the union, a little enlarged. -/
def iou (h q : Box) : EReal := Ideal.div (inter h q) (h.area + q.area - inter h q + eps)

/-- Box `h` drops box `q`. -/
def drops (h q : Box) : Prop := limit < iou h q

/-- What is asked of a box that scores enough: finite corners, positive sides, and an area not too small. -/
structure Tame (b : Box) : Prop where
  x1 : b.x1 ≤ high ∧ low ≤ b.x1
  y1 : b.y1 ≤ high ∧ low ≤ b.y1
  x2 : b.x2 ≤ high ∧ low ≤ b.x2
  y2 : b.y2 ≤ high ∧ low ≤ b.y2
  w : 0 < b.x2 - b.x1
  h : 0 < b.y2 - b.y1
  big : eps ≤ (b.x2 - b.x1) * (b.y2 - b.y1)

/-- Such a box's corners are real. -/
theorem real_of_within {x : EReal} (h : x ≤ high ∧ low ≤ x) : ∃ r : ℝ, x = r := by
  induction x using EReal.rec with
  | bot => exact absurd h.2 (by rw [low_eq]; exact not_le.mpr (EReal.bot_lt_coe _))
  | top => exact absurd h.1 (by rw [high_eq]; exact not_le.mpr (EReal.coe_lt_top _))
  | coe r => exact ⟨r, rfl⟩

/-- Such a box drops itself. -/
theorem Tame.drops_self {b : Box} (t : Tame b) : drops b b := by
  obtain ⟨x1, hx1⟩ := real_of_within t.x1
  obtain ⟨y1, hy1⟩ := real_of_within t.y1
  obtain ⟨x2, hx2⟩ := real_of_within t.x2
  obtain ⟨y2, hy2⟩ := real_of_within t.y2
  have hw := t.w
  have hh := t.h
  have hb := t.big
  rw [hx1, hx2, ← EReal.coe_sub] at hw
  rw [hy1, hy2, ← EReal.coe_sub] at hh
  rw [hx1, hx2, hy1, hy2, eps_eq, ← EReal.coe_sub, ← EReal.coe_sub, ← EReal.coe_mul, EReal.coe_le_coe_iff] at hb
  have hw' : 0 < x2 - x1 := EReal.coe_pos.mp hw
  have hh' : 0 < y2 - y1 := EReal.coe_pos.mp hh
  have hi : inter b b = (((x2 - x1) * (y2 - y1) : ℝ) : EReal) := by
    unfold inter
    rw [min_self, min_self, max_self, max_self, hx1, hx2, hy1, hy2, ← EReal.coe_sub, ← EReal.coe_sub,
      max_eq_left hw.le, max_eq_left hh.le, ← EReal.coe_mul]
  have ha : b.area = (((x2 - x1) * (y2 - y1) : ℝ) : EReal) := by
    unfold Box.area
    rw [hx1, hx2, hy1, hy2, ← EReal.coe_sub, ← EReal.coe_sub, ← EReal.coe_mul]
  unfold drops iou
  rw [hi, ha, eps_eq, limit_eq, ← EReal.coe_add, ← EReal.coe_sub, ← EReal.coe_add]
  generalize (x2 - x1) * (y2 - y1) = A at hb
  have hpos : 0 < A + A - A + 8796093 / 8796093022208 := by
    have : (0 : ℝ) < 8796093 / 8796093022208 := by norm_num
    linarith
  unfold Ideal.div
  rw [if_neg (by rw [EReal.coe_eq_zero]; exact hpos.ne'), ← EReal.coe_inv, ← EReal.coe_mul, EReal.coe_lt_coe_iff,
    ← div_eq_mul_inv, lt_div_iff₀ hpos]
  linarith

/-! ## What is left, and what is taken -/

variable (b : ℕ → Box) (N : ℕ)

/-- The places of the boxes left after `t` were taken: at first all that score enough, then those left that are not the
    first and that the first does not drop. -/
def Left : ℕ → ℕ → Prop
  | 0, p => p < N ∧ half ≤ (b p).s
  | t + 1, p => Left t p ∧ p ≠ sInf {q | Left t q} ∧ ¬ drops (b (sInf {q | Left t q})) (b p)

/-- The place of the box that is taken after `t` were: the first one left. -/
def first (t : ℕ) : ℕ := sInf {q | Left b N t q}

/-- The row a box makes: nought, its score and its corners; all noughts for a box with a short side. -/
def rowOf (x : Box) : Fin 6 → EReal := open Classical in
  if forty ≤ x.x2 - x.x1 ∧ forty ≤ x.y2 - x.y1 then ![0, x.s, x.x1, x.y1, x.x2, x.y2] else 0

/-- Row `t` of the table: the row of the box that is taken after `t` were, noughts when none is left. -/
def table (t : ℕ) : Fin 6 → EReal := open Classical in
  if ∃ p, Left b N t p then rowOf (b (first b N t)) else 0

variable {b N}

/-- What is left after a pick was left before it. -/
theorem Left.of_succ {t p : ℕ} (h : Left b N (t + 1) p) : Left b N t p := h.1

/-- What is left is one of the first `N` and scores enough. -/
theorem Left.zero {t p : ℕ} (h : Left b N t p) : p < N ∧ half ≤ (b p).s := by
  induction t with
  | zero => exact h
  | succ t ih => exact ih h.1

/-- What is left after more picks is left after fewer. -/
theorem Left.mono {t t' p : ℕ} (h : Left b N t' p) (ht : t ≤ t') : Left b N t p := by
  obtain ⟨k, rfl⟩ := Nat.exists_eq_add_of_le ht
  induction k with
  | zero => exact h
  | succ k ih => exact ih h.1 (Nat.le_add_right _ _)

/-- Where something is left, so is the first that is left. -/
theorem left_first {t p : ℕ} (h : Left b N t p) : Left b N t (first b N t) := Nat.sInf_mem (s := {q | Left b N t q}) ⟨p, h⟩

/-- The first that is left comes no later than any that is. -/
theorem first_le {t p : ℕ} (h : Left b N t p) : first b N t ≤ p := Nat.sInf_le h

/-- The first one left, told by what it is. -/
theorem first_eq {t p : ℕ} (h : Left b N t p) (hm : ∀ q, Left b N t q → p ≤ q) : first b N t = p :=
  le_antisymm (first_le h) (hm _ (left_first h))

/-- What is left after one more pick: what was, but the box picked and those that it drops. -/
theorem left_succ {t p : ℕ} : Left b N (t + 1) p ↔ Left b N t p ∧ p ≠ first b N t ∧ ¬ drops (b (first b N t)) (b p) := Iff.rfl

/-- Where nothing is left the table has noughts. -/
theorem table_none {t : ℕ} (h : ∀ p, ¬ Left b N t p) : table b N t = 0 :=
  if_neg fun ⟨p, hp⟩ => h p hp

/-- Where something is left the table has the row of the first. -/
theorem table_some {t p : ℕ} (h : Left b N t p) : table b N t = rowOf (b (first b N t)) := if_pos ⟨p, h⟩

end Cert.Proof

end
-- ==== Proof.Source.lean ====
/-
  The boxes that the two programs are given, as one list, and what an order of them by score is.
-/
module

public import proofs.«01_k».proof.Proof.Greedy
public import Idealize.ShloMosaic.Lib.Pointwise

@[expose] public section

noncomputable section

namespace Cert.Proof

open Idealize.ShloMosaic

/-- An array of 10000 boxes' corners. -/
abbrev Corners := FVec Ideal ⟨2, ![10000, 4]⟩ .f32
/-- An array of 10000 scores. -/
abbrev Scores := FVec Ideal ⟨1, ![10000]⟩ .f32

variable (A0 : Corners) (A1 : Scores) (A2 : Corners) (A3 : Scores)

/-- A score of the joined list: of the first 10000, of the second, then the lowest. -/
def srcScore (j : ℕ) : EReal :=
  if h : j < 10000 then A1 (ix1 ⟨j, h⟩) else if h' : j < 20000 then A3 (ix1 ⟨j - 10000, by omega⟩) else low

/-- A corner's coordinate of the joined list: of the first 10000, of the second, then nought. -/
def srcCorner (j : ℕ) (k : Fin 4) : EReal :=
  if h : j < 10000 then A0 (ix2 ⟨j, h⟩ k) else if h' : j < 20000 then A2 (ix2 ⟨j - 10000, by omega⟩ k) else 0

/-- The joined list of boxes. -/
def source (j : ℕ) : Box :=
  ⟨srcScore A1 A3 j, srcCorner A0 A2 j 0, srcCorner A0 A2 j 1, srcCorner A0 A2 j 2, srcCorner A0 A2 j 3⟩

/-- The list `b` holds the 20000 boxes of `src`, box `j` at place `pos j`, greater scores first and among equal ones
    in their order; whatever else it holds does not score enough. -/
structure Order (src b : ℕ → Box) (pos : Fin 20000 → ℕ) : Prop where
  lt : ∀ j, pos j < 20480
  inj : Function.Injective pos
  box : ∀ j, b (pos j) = src j.val
  onto : ∀ p, p < 20480 → half ≤ (b p).s → ∃ j, pos j = p
  le : ∀ i j : Fin 20000, ((src j.val).s < (src i.val).s ∨ ((src j.val).s = (src i.val).s ∧ i ≤ j)) → pos i ≤ pos j

end Cert.Proof

end
-- ==== Proof.HostSort.lean ====
/-
  What the host lines before the region leave: the boxes of both arguments, padded, in the order of a stable sort of
  their scores, the greatest first.
-/
module

public import proofs.«01_k».proof.Proof.Run
public import proofs.«01_k».proof.Proof.Source
public import Idealize.ShloMosaic.Lib.StableHlo.ReadAt
public import Idealize.ShloMosaic.Lib.PlanTiles.StableSort

@[expose] public section

set_option maxRecDepth 16384

noncomputable section

namespace Cert.Proof.K

open Cert.KernelIdeal Cert.KernelIdeal.Gen
open Idealize.ShloMosaic Idealize.ShloMosaic.TcCoe Idealize.ShloMosaic.StableHlo

/-! ## A stable sort by increasing keys -/

/-- How many places hold a greater key. -/
def above {n : ℕ} (key : Fin n → EReal) (i : Fin n) : ℕ := (Finset.univ.filter fun j => key i < key j).card

/-- Fewer places hold a greater key exactly where the key is greater. -/
theorem above_lt {n : ℕ} (key : Fin n → EReal) (i j : Fin n) : above key j < above key i ↔ key i < key j := by
  have up : ∀ a b : Fin n, key a ≤ key b → above key b ≤ above key a := fun a b h =>
    Finset.card_le_card fun c hc => by
      simp only [Finset.mem_filter, Finset.mem_univ, true_and] at hc ⊢
      exact h.trans_lt hc
  constructor
  · intro h
    by_contra hn
    exact absurd (up j i (not_lt.mp hn)) (not_le.mpr h)
  · intro h
    refine Finset.card_lt_card (Finset.ssubset_iff_of_subset ?_ |>.mpr ⟨j, ?_, ?_⟩)
    · intro c hc
      simp only [Finset.mem_filter, Finset.mem_univ, true_and] at hc ⊢
      exact h.trans hc
    · simpa using h
    · simp

/-- The place whose box a stable sort by increasing keys puts at place `i`. -/
@[irreducible] def origin {n : ℕ} (key : Fin n → EReal) : Fin n → Fin n := sortedFrom fun k k' => decide (key k < key k')

/-- Of two places the earlier one holds the lesser key, or the same key from an earlier place. -/
theorem origin_lex {n : ℕ} (key : Fin n → EReal) (i j : Fin n) (hij : i < j) :
    key (origin key i) < key (origin key j) ∨ (key (origin key i) = key (origin key j) ∧ origin key i < origin key j) := by
  have hb : (fun k k' : Fin n => decide (key k < key k')) = fun k k' => decide (above key k' < above key k) := by
    funext k k'
    rw [decide_eq_decide]
    exact (above_lt key k k').symm
  have hp := List.pairwise_iff_get.mp (PlanTiles.pairwise_stableSort_lex (above key) (· < ·) (List.finRange n) (List.pairwise_lt_finRange n))
  have h := hp (i.cast (length_sortPositions n _).symm) (j.cast (length_sortPositions n _).symm) hij
  have e : ∀ k : Fin n, origin key k = (sortPositions n fun k k' : Fin n => decide (above key k' < above key k)).get (k.cast (length_sortPositions n _).symm) := by
    intro k
    unfold origin
    rw [hb]
    rfl
  rw [e, e]
  rcases h with h | ⟨h, h'⟩
  · exact .inl ((above_lt key _ _).mp h)
  · refine .inr ⟨?_, h'⟩
    refine le_antisymm ?_ ?_ <;> refine not_lt.mp fun hl => ?_
    · exact absurd ((above_lt key _ _).mpr hl) (not_lt.mpr h.ge)
    · exact absurd ((above_lt key _ _).mpr hl) (not_lt.mpr h.le)

/-- The sort moves every place to one place. -/
theorem origin_bijective {n : ℕ} (key : Fin n → EReal) : Function.Bijective (origin key) := by
  unfold origin
  exact ⟨sortedFrom_injective _, sortedFrom_surjective _⟩

/-! ## The host's sort -/

/-- The sort's comparison asks whether the first key is the lesser. -/
theorem comparator_eq (l r : EReal × EReal × EReal × EReal × EReal) :
    comparator_f32_f32_f32_f32_f32_d0 (F := Ideal) l r = BitVec.ofBool (decide (l.1 < r.1)) := by
  have hz : ∀ x : EReal, Scalar.select (α := EReal) (Ideal.cmp .oeq x (Ideal.ofBits .f32 0x00000000#32)) (Ideal.ofBits .f32 0x00000000#32) x = x := by
    intro x
    rw [Ideal.ofBits_zero_f32]
    unfold Scalar.select Ideal.cmp
    by_cases h : x = 0
    · simp [h]
    · simp [h]
  have hn : ∀ x y z : EReal, Scalar.select (α := EReal) (Ideal.cmp .une x x) y z = z := by
    intro x y z
    unfold Scalar.select Ideal.cmp
    simp
  show Ideal.cmp .olt (Scalar.select (α := EReal) (Ideal.cmp .une l.1 l.1) (Ideal.ofBits .f32 0x7FC00000#32) (Scalar.select (α := EReal) (Ideal.cmp .oeq l.1 (Ideal.ofBits .f32 0x00000000#32)) (Ideal.ofBits .f32 0x00000000#32) l.1))
    (Scalar.select (α := EReal) (Ideal.cmp .une r.1 r.1) (Ideal.ofBits .f32 0x7FC00000#32) (Scalar.select (α := EReal) (Ideal.cmp .oeq r.1 (Ideal.ofBits .f32 0x00000000#32)) (Ideal.ofBits .f32 0x00000000#32) r.1)) = _
  rw [hn, hn, hz, hz]
  rfl

/-- What the sort puts at a place: what stood at its origin. -/
theorem sortBy_ix1 {n : ℕ} {ι : Type} (cmp : ι → ι → BitVec 1) (rows : (⟨1, ![n]⟩ : Shape).Idx → ι) (key : Fin n → EReal)
    (hc : ∀ k k', cmp (rows (ix1 k)) (rows (ix1 k')) = BitVec.ofBool (decide (key k < key k')))
    (x : (⟨1, ![n]⟩ : Shape).Idx → EReal) (i : Fin n) :
    Host.sortBy ⟨1, ![n]⟩ 0 cmp rows x (ix1 i) = x (ix1 (origin key i)) := by
  have e : ∀ k : Fin n, Shape.Idx.along (s := ⟨1, ![n]⟩) (ix1 i) 0 k = ix1 k := fun k => by
    rw [Shape.Idx.along_rank1, Shape.Idx.eq_ofFin (ix1 k)]
    rfl
  unfold Host.sortBy
  rw [dif_pos (show 0 < Shape.rank ⟨1, ![n]⟩ from Nat.zero_lt_one)]
  refine (congrArg x (e _)).trans ?_
  unfold origin
  refine congrArg (fun f : Fin n → Fin n → Bool => x (ix1 (sortedFrom f i))) ?_
  funext (k : Fin n) (k' : Fin n)
  refine (congrArg₂ (fun a b => cmp (rows a) (rows b) == 1#1) (e k) (e k')).trans ?_
  refine (congrArg (fun v => v == 1#1) (hc k k')).trans ?_
  by_cases h : key k < key k' <;> simp [h]

/-! ## The lines before the region, in three parts -/

/-- The lines up to the sort: the boxes of both arguments joined and padded, the scores negated, the columns apart. -/
abbrev padOps {F : FTy → Type} [FloatOps F] : List (HloOp τ sig (Elt F)) :=
  hostOps0 ++ (hostOps0_1 ++ (hostOps0_2 ++ (hostOps0_3 ++ List.take 9 hostOps0_4)))
/-- The sort, one line for each of its five results. -/
abbrev sortOps {F : FTy → Type} [FloatOps F] : List (HloOp τ sig (Elt F)) := List.take 5 (List.drop 9 hostOps0_4)
/-- The lines after the sort: the scores negated again, every column laid out as a plane. -/
abbrev planeOps {F : FTy → Type} [FloatOps F] : List (HloOp τ sig (Elt F)) := List.drop 14 hostOps0_4

variable (X : Valuation τ sig (Elt Ideal))

/-- The plane of scores: the sorted scores, negated, row after row. -/
theorem plane_score (a : Fin 160) (b : Fin 128) : (after (planeOps (F := Ideal)) X (Proc.devRef .tc main_v15) : FVec Ideal S160x128 .f32) (ix2 a b)
    = -(show EReal from (X (Proc.devRef .tc main_v13_0) : FVec Ideal S20480 .f32) (ix1 ⟨a.val * 128 + b.val, by omega⟩)) := by
  simp only [planeOps, hostOps0_4, List.drop_succ_cons, List.drop_zero]
  after_reads_simp
  try simp -implicitDefEqProofs only [StableHlo.TRef.toBuf, StableHlo.TRef.ofBuf, cast_cast, cast_eq]
  clean_types
  pointwise

/-- The plane of `x1`: the sorted column, row after row. -/
theorem plane_x1 (a : Fin 160) (b : Fin 128) : (after (planeOps (F := Ideal)) X (Proc.devRef .tc main_v16) : FVec Ideal S160x128 .f32) (ix2 a b)
    = (X (Proc.devRef .tc main_v13_1) : FVec Ideal S20480 .f32) (ix1 ⟨a.val * 128 + b.val, by omega⟩) := by
  simp only [planeOps, hostOps0_4, List.drop_succ_cons, List.drop_zero]
  after_reads_simp
  try simp -implicitDefEqProofs only [StableHlo.TRef.toBuf, StableHlo.TRef.ofBuf, cast_cast, cast_eq]
  clean_types
  pointwise

/-- The plane of `y1`: the sorted column, row after row. -/
theorem plane_y1 (a : Fin 160) (b : Fin 128) : (after (planeOps (F := Ideal)) X (Proc.devRef .tc main_v17) : FVec Ideal S160x128 .f32) (ix2 a b)
    = (X (Proc.devRef .tc main_v13_2) : FVec Ideal S20480 .f32) (ix1 ⟨a.val * 128 + b.val, by omega⟩) := by
  simp only [planeOps, hostOps0_4, List.drop_succ_cons, List.drop_zero]
  after_reads_simp
  try simp -implicitDefEqProofs only [StableHlo.TRef.toBuf, StableHlo.TRef.ofBuf, cast_cast, cast_eq]
  clean_types
  pointwise

/-- The plane of `x2`: the sorted column, row after row. -/
theorem plane_x2 (a : Fin 160) (b : Fin 128) : (after (planeOps (F := Ideal)) X (Proc.devRef .tc main_v18) : FVec Ideal S160x128 .f32) (ix2 a b)
    = (X (Proc.devRef .tc main_v13_3) : FVec Ideal S20480 .f32) (ix1 ⟨a.val * 128 + b.val, by omega⟩) := by
  simp only [planeOps, hostOps0_4, List.drop_succ_cons, List.drop_zero]
  after_reads_simp
  try simp -implicitDefEqProofs only [StableHlo.TRef.toBuf, StableHlo.TRef.ofBuf, cast_cast, cast_eq]
  clean_types
  pointwise

/-- The plane of `y2`: the sorted column, row after row. -/
theorem plane_y2 (a : Fin 160) (b : Fin 128) : (after (planeOps (F := Ideal)) X (Proc.devRef .tc main_v19) : FVec Ideal S160x128 .f32) (ix2 a b)
    = (X (Proc.devRef .tc main_v13_4) : FVec Ideal S20480 .f32) (ix1 ⟨a.val * 128 + b.val, by omega⟩) := by
  simp only [planeOps, hostOps0_4, List.drop_succ_cons, List.drop_zero]
  after_reads_simp
  try simp -implicitDefEqProofs only [StableHlo.TRef.toBuf, StableHlo.TRef.ofBuf, cast_cast, cast_eq]
  clean_types
  pointwise

/-- What the sort compares: a place's negated score, with its corners beside it. -/
abbrev rowAt (X : Valuation τ sig (Elt Ideal)) (j : S20480.Idx) : EReal × EReal × EReal × EReal × EReal :=
  ((X (Proc.devRef .tc main_v4) : FVec Ideal S20480 .f32) j, (X (Proc.devRef .tc main_v6) : FVec Ideal S20480 .f32) j,
    (X (Proc.devRef .tc main_v8) : FVec Ideal S20480 .f32) j, (X (Proc.devRef .tc main_v10) : FVec Ideal S20480 .f32) j,
    (X (Proc.devRef .tc main_v12) : FVec Ideal S20480 .f32) j)

/-- The sort's first result: the negated scores, sorted. -/
theorem sort_0 : (after (sortOps (F := Ideal)) X (Proc.devRef .tc main_v13_0) : FVec Ideal S20480 .f32) =
    Host.sortBy S20480 0 (comparator_f32_f32_f32_f32_f32_d0 (F := Ideal)) (rowAt X) (X (Proc.devRef .tc main_v4) : FVec Ideal S20480 .f32) := by
  simp only [sortOps, hostOps0_4, List.drop_succ_cons, List.drop_zero, List.take_succ_cons, List.take_zero]
  after_reads_simp
  rfl

/-- Its second: the column `x1` in that order. -/
theorem sort_1 : (after (sortOps (F := Ideal)) X (Proc.devRef .tc main_v13_1) : FVec Ideal S20480 .f32) =
    Host.sortBy S20480 0 (comparator_f32_f32_f32_f32_f32_d0 (F := Ideal)) (rowAt X) (X (Proc.devRef .tc main_v6) : FVec Ideal S20480 .f32) := by
  simp only [sortOps, hostOps0_4, List.drop_succ_cons, List.drop_zero, List.take_succ_cons, List.take_zero]
  after_reads_simp
  rfl

/-- Its third: the column `y1` in that order. -/
theorem sort_2 : (after (sortOps (F := Ideal)) X (Proc.devRef .tc main_v13_2) : FVec Ideal S20480 .f32) =
    Host.sortBy S20480 0 (comparator_f32_f32_f32_f32_f32_d0 (F := Ideal)) (rowAt X) (X (Proc.devRef .tc main_v8) : FVec Ideal S20480 .f32) := by
  simp only [sortOps, hostOps0_4, List.drop_succ_cons, List.drop_zero, List.take_succ_cons, List.take_zero]
  after_reads_simp
  rfl

/-- Its fourth: the column `x2` in that order. -/
theorem sort_3 : (after (sortOps (F := Ideal)) X (Proc.devRef .tc main_v13_3) : FVec Ideal S20480 .f32) =
    Host.sortBy S20480 0 (comparator_f32_f32_f32_f32_f32_d0 (F := Ideal)) (rowAt X) (X (Proc.devRef .tc main_v10) : FVec Ideal S20480 .f32) := by
  simp only [sortOps, hostOps0_4, List.drop_succ_cons, List.drop_zero, List.take_succ_cons, List.take_zero]
  after_reads_simp
  rfl

/-- Its fifth: the column `y2` in that order. -/
theorem sort_4 : (after (sortOps (F := Ideal)) X (Proc.devRef .tc main_v13_4) : FVec Ideal S20480 .f32) =
    Host.sortBy S20480 0 (comparator_f32_f32_f32_f32_f32_d0 (F := Ideal)) (rowAt X) (X (Proc.devRef .tc main_v12) : FVec Ideal S20480 .f32) := by
  simp only [sortOps, hostOps0_4, List.drop_succ_cons, List.drop_zero, List.take_succ_cons, List.take_zero]
  after_reads_simp
  rfl

/-- Before the sort: the negated scores of the joined list. -/
theorem pad_score (p : Fin 20480) : ((after (padOps (F := Ideal)) X (Proc.devRef .tc main_v4) : FVec Ideal S20480 .f32) (ix1 p) : EReal)
    = -srcScore (X (Proc.devRef .tc main_arg1)) (X (Proc.devRef .tc main_arg3)) p.val := by
  have h1 : upto (padOps (F := Ideal)) X 1 (Proc.devRef .tc main_arg1) = X (Proc.devRef .tc main_arg1) := by
    unfold upto
    simp only [padOps, hostOps0, List.cons_append, List.take_succ_cons, List.take_zero]
    after_reads_simp
  have h3 : upto (padOps (F := Ideal)) X 1 (Proc.devRef .tc main_arg3) = X (Proc.devRef .tc main_arg3) := by
    unfold upto
    simp only [padOps, hostOps0, List.cons_append, List.take_succ_cons, List.take_zero]
    after_reads_simp
  simp only [padOps, hostOps0, hostOps0_1, hostOps0_2, hostOps0_3, hostOps0_4, List.cons_append, List.nil_append, List.take_succ_cons, List.take_zero] at h1 h3
  simp only [padOps, hostOps0, hostOps0_1, hostOps0_2, hostOps0_3, hostOps0_4, List.cons_append, List.nil_append, List.take_succ_cons, List.take_zero]
  after_reads_simp
  try simp -implicitDefEqProofs only [StableHlo.TRef.toBuf, StableHlo.TRef.ofBuf, cast_cast, cast_eq]
  clean_types
  simp only [id]
  pointwise
  rw [h1, h3]
  unfold srcScore
  split_ifs <;> first | rfl | omega

/-- Nought of the machine words reads as nought. -/
theorem sitofp_zero : (FloatOps.sitofp (F := Ideal) .f32 0#32 : EReal) = (0 : EReal) := by
  show (((0#32 : BitVec 32).toInt : ℝ) : EReal) = (0 : EReal)
  simp

/-- Before the sort: the column `x1` of the joined list. -/
theorem pad_x1 (p : Fin 20480) : ((after (padOps (F := Ideal)) X (Proc.devRef .tc main_v6) : FVec Ideal S20480 .f32) (ix1 p) : EReal)
    = srcCorner (X (Proc.devRef .tc main_arg0)) (X (Proc.devRef .tc main_arg2)) p.val 0 := by
  simp only [padOps, hostOps0, hostOps0_1, hostOps0_2, hostOps0_3, hostOps0_4, List.cons_append, List.nil_append, List.take_succ_cons, List.take_zero]
  after_reads_simp
  try simp -implicitDefEqProofs only [StableHlo.TRef.toBuf, StableHlo.TRef.ofBuf, cast_cast, cast_eq]
  clean_types
  pointwise
  rw [upto_zero]
  unfold srcCorner
  split_ifs <;> first | rfl | exact sitofp_zero | omega

/-- Before the sort: the column `y1` of the joined list. -/
theorem pad_y1 (p : Fin 20480) : ((after (padOps (F := Ideal)) X (Proc.devRef .tc main_v8) : FVec Ideal S20480 .f32) (ix1 p) : EReal)
    = srcCorner (X (Proc.devRef .tc main_arg0)) (X (Proc.devRef .tc main_arg2)) p.val 1 := by
  simp only [padOps, hostOps0, hostOps0_1, hostOps0_2, hostOps0_3, hostOps0_4, List.cons_append, List.nil_append, List.take_succ_cons, List.take_zero]
  after_reads_simp
  try simp -implicitDefEqProofs only [StableHlo.TRef.toBuf, StableHlo.TRef.ofBuf, cast_cast, cast_eq]
  clean_types
  pointwise
  rw [upto_zero]
  unfold srcCorner
  split_ifs <;> first | rfl | exact sitofp_zero | omega

/-- Before the sort: the column `x2` of the joined list. -/
theorem pad_x2 (p : Fin 20480) : ((after (padOps (F := Ideal)) X (Proc.devRef .tc main_v10) : FVec Ideal S20480 .f32) (ix1 p) : EReal)
    = srcCorner (X (Proc.devRef .tc main_arg0)) (X (Proc.devRef .tc main_arg2)) p.val 2 := by
  simp only [padOps, hostOps0, hostOps0_1, hostOps0_2, hostOps0_3, hostOps0_4, List.cons_append, List.nil_append, List.take_succ_cons, List.take_zero]
  after_reads_simp
  try simp -implicitDefEqProofs only [StableHlo.TRef.toBuf, StableHlo.TRef.ofBuf, cast_cast, cast_eq]
  clean_types
  pointwise
  rw [upto_zero]
  unfold srcCorner
  split_ifs <;> first | rfl | exact sitofp_zero | omega

/-- Before the sort: the column `y2` of the joined list. -/
theorem pad_y2 (p : Fin 20480) : ((after (padOps (F := Ideal)) X (Proc.devRef .tc main_v12) : FVec Ideal S20480 .f32) (ix1 p) : EReal)
    = srcCorner (X (Proc.devRef .tc main_arg0)) (X (Proc.devRef .tc main_arg2)) p.val 3 := by
  simp only [padOps, hostOps0, hostOps0_1, hostOps0_2, hostOps0_3, hostOps0_4, List.cons_append, List.nil_append, List.take_succ_cons, List.take_zero]
  after_reads_simp
  try simp -implicitDefEqProofs only [StableHlo.TRef.toBuf, StableHlo.TRef.ofBuf, cast_cast, cast_eq]
  clean_types
  pointwise
  rw [upto_zero]
  unfold srcCorner
  split_ifs <;> first | rfl | exact sitofp_zero | omega

end Cert.Proof.K

end
-- ==== Proof.KBlock.lean ====
/-
  One block of the kernel, over the extended reals: what its vector operations say of the block's boxes.
-/
module

public import proofs.«01_k».proof.Proof.Model
public import proofs.«01_k».proof.Proof.Greedy
public import Idealize.ShloMosaic.Lib.Pipeline.Value
public import Idealize.ShloMosaic.PureOps.Reduce

@[expose] public section

noncomputable section

namespace Cert.Proof.K

open Cert.KernelIdeal Cert.KernelIdeal.Gen
open Idealize.ShloMosaic

/-! ## Reductions of a block -/

/-- An array of one element has one index. -/
instance : Subsingleton S1.Idx := ⟨fun a b => funext fun x => by
  have h1 : S1.size x = 1 := by fin_cases x; rfl
  have ha := (a x).isLt
  have hb := (b x).isLt
  exact Fin.ext (by omega)⟩

/-- Everything about the entries of a block holds of its entries in another shape. -/
theorem forall_shapeCast {α : Type} (v : S8x128.Idx → α) (Q : α → Prop) :
    (∀ i, Q (shapeCast S1x8x128 v shapeCasts_S8x128_S1x8x128 i)) ↔ ∀ i, Q (v i) := by
  constructor
  · intro h i
    have := h ((Shape.reshapeEquiv shapeCasts_S8x128_S1x8x128).symm i)
    unfold shapeCast at this
    rwa [Equiv.apply_symm_apply] at this
  · intro h i
    exact h _

/-- A block's greatest entry is at most `x` exactly when every entry is. -/
theorem maxAll_le (v : FVec Ideal S8x128 .f32) (x : EReal) : k0_pay14 v ≤ x ↔ ∀ i, (v i : EReal) ≤ x := by
  rw [← forall_shapeCast v fun y => (y : EReal) ≤ x]
  refine Iff.trans (iff_of_eq (congrArg (· ≤ x) (multiReduction_maximumf_eq_fold (F := Ideal) (φ := .f32)
    (shapeCast S1x8x128 v shapeCasts_S8x128_S1x8x128) 0xFF800000#32 reduces_S1x8x128_S1 (.inl rfl) (by rfl)
    (Shape.reshapeEquiv shapeCasts_S1_S1x1x1 fun a => ⟨![0, 0, 0] a, inpos_S1x1x1_p0_0_0 a⟩)))) ?_
  show Finset.fold max (Ideal.ofBits .f32 0xFF800000#32) _ _ ≤ x ↔ _
  rw [Finset.fold_max_le]
  have hb : Ideal.ofBits .f32 0xFF800000#32 = (⊥ : EReal) := by simp [Ideal.ofBits, Ideal.ieee]
  rw [hb]
  constructor
  · intro h i
    exact h.2 i (by rw [Finset.mem_filter]; exact ⟨Finset.mem_univ _, Subsingleton.elim _ _⟩)
  · intro h
    exact ⟨bot_le, fun i _ => h i⟩

/-- A block's greatest entry exceeds `x` exactly when some entry does. -/
theorem lt_maxAll (v : FVec Ideal S8x128 .f32) (x : EReal) : x < k0_pay14 v ↔ ∃ i, x < (v i : EReal) := by
  rw [← not_le, maxAll_le]; push Not; rfl

/-- A block's greatest entry is at least `x`, when some entry is. -/
theorem le_maxAll (v : FVec Ideal S8x128 .f32) {x : EReal} {i : S8x128.Idx} (h : x ≤ v i) : x ≤ k0_pay14 v :=
  h.trans ((maxAll_le v _).mp le_rfl i)

/-- The greatest entry of a block that keeps one entry of `v` and has the lowest score elsewhere. -/
theorem maxAll_pick (m : IVec S8x128 1) (v : FVec Ideal S8x128 .f32) (i₀ : S8x128.Idx) (hm : ∀ i, m i = 1#1 ↔ i = i₀) :
    k0_pay14 (select m v (broadcast S8x128 (Scalar.ofBits (F := Ideal) .f32 0xF149F2CA#32))) = max (v i₀ : EReal) low := by
  refine eq_of_forall_ge_iff fun x => ?_
  rw [maxAll_le, max_le_iff]
  have hs : ∀ i, (select m v (broadcast S8x128 (Scalar.ofBits (F := Ideal) .f32 0xF149F2CA#32)) i : EReal)
      = if i = i₀ then (v i : EReal) else low := by
    intro i
    show (if m i = 1#1 then _ else _) = _
    simp only [hm i]
    rfl
  simp only [hs]
  constructor
  · intro h
    refine ⟨by simpa using h i₀, ?_⟩
    obtain ⟨i, hi⟩ : ∃ i : S8x128.Idx, i ≠ i₀ := by
      by_contra hne
      push Not at hne
      have := (hne (ValueIdx.ix2 0 0)).trans (hne (ValueIdx.ix2 0 1)).symm
      have h1 := congrArg Fin.val (congrFun this 1)
      exact absurd h1 (by decide)
    have := h i
    rwa [if_neg hi] at this
  · rintro ⟨h1, h2⟩ i
    split
    · rename_i e; subst e; exact h1
    · exact h2

/-! ## The block's boxes -/

/-- The box at a place of a block. -/
def Chunk.box (C : Chunk Ideal) (i : S8x128.Idx) : Box := ⟨C.s i, C.x1 i, C.y1 i, C.x2 i, C.y2 i⟩

/-- A kept box as a box, with some score. -/
def Kept.box (k : Kept Ideal) (s : EReal) : Box := ⟨s, k.x1, k.y1, k.x2, k.y2⟩

/-- The kept box's area is its sides' product. -/
def Kept.Fair (k : Kept Ideal) : Prop := k.ar = ((k.x2 : EReal) - k.x1) * ((k.y2 : EReal) - k.y1)

/-- The score of a kept box does not matter to what it drops. -/
theorem drops_box (k : Kept Ideal) (s s' : EReal) (q : Box) : drops (k.box s) q ↔ drops (k.box s') q := Iff.rfl

/-- A pass over a kept box: at each place the greater of what was there and the overlap with that box. -/
theorem overlapStep_apply (C : Chunk Ideal) (acc : FVec Ideal S8x128 .f32) (k : Kept Ideal) (hk : k.Fair) (i : S8x128.Idx) :
    (overlapStep C acc k i : EReal) = max (acc i) (iou (k.box 0) (C.box i)) := by
  have hk' : k.ar = ((k.x2 : EReal) - k.x1) * ((k.y2 : EReal) - k.y1) := hk
  unfold overlapStep
  unfold k0_pay11 k0_pay9 k0_pay5 k0_pay6 k0_pay7 k0_pay8
  simp only [shapeCast_self, hk']
  show max _ _ = _
  congr 1
  unfold iou inter Box.area
  rw [← Ideal.ofBits_zero_f32]
  rfl

/-- The largest overlap exceeds the limit exactly when one of the kept boxes drops the box. -/
theorem limit_lt_overlapTo (C : Chunk Ideal) (kept : ℕ → Kept Ideal) (i : S8x128.Idx) (n : ℕ) (hk : ∀ j < n, (kept j).Fair) :
    limit < (overlapTo C kept n i : EReal) ↔ ∃ j < n, drops ((kept j).box 0) (C.box i) := by
  induction n with
  | zero =>
    constructor
    · intro h
      refine absurd (lt_trans limit_pos h) (not_lt.mpr (le_of_eq ?_))
      show Ideal.ofBits .f32 0x00000000#32 = 0
      exact Ideal.ofBits_zero_f32
    · rintro ⟨j, hj, _⟩; exact absurd hj (Nat.not_lt_zero _)
  | succ n ih =>
    show limit < (overlapStep C (overlapTo C kept n) (kept n) i : EReal) ↔ _
    rw [overlapStep_apply _ _ _ (hk n (Nat.lt_succ_self n)), lt_max_iff, ih fun j hj => hk j (hj.trans (Nat.lt_succ_self n))]
    constructor
    · rintro (⟨j, hj, h⟩ | h)
      · exact ⟨j, hj.trans (Nat.lt_succ_self n), h⟩
      · exact ⟨n, Nat.lt_succ_self n, h⟩
    · rintro ⟨j, hj, h⟩
      rcases Nat.lt_succ_iff_lt_or_eq.mp hj with hj | rfl
      · exact .inl ⟨j, hj, h⟩
      · exact .inr h

/-- The float word of one is the number one. -/
theorem one_eq : (Ideal.ofBits .f32 0x3F800000#32 : EReal) = 1 := by
  simp [Ideal.ofBits, Ideal.ieee]; norm_num
  first | done | (rw [← EReal.coe_mul]; norm_num)

/-- A comparison's word, as a proposition. -/
theorem ogt_iff (x y : EReal) : FloatOps.cmpf (F := Ideal) (φ := .f32) .ogt x y = 1#1 ↔ y < x := by
  show BitVec.ofBool (decide (y < x)) = 1#1 ↔ _
  by_cases h : y < x <;> simp [h]

/-- A comparison's word, as a proposition. -/
theorem oge_iff (x y : EReal) : FloatOps.cmpf (F := Ideal) (φ := .f32) .oge x y = 1#1 ↔ y ≤ x := by
  show BitVec.ofBool (decide (y ≤ x)) = 1#1 ↔ _
  by_cases h : y ≤ x <;> simp [h]

/-- At first the boxes alive are those that no kept box drops. -/
theorem alive0_pos (C : Chunk Ideal) (s : St Ideal) (hk : ∀ j < s.t, (s.kept j).Fair) (i : S8x128.Idx) :
    0 < (alive0 C s i : EReal) ↔ ∀ j < s.t, ¬ drops ((s.kept j).box 0) (C.box i) := by
  have hlim := limit_lt_overlapTo C s.kept i s.t hk
  have e : (alive0 C s i : EReal) = if limit < (overlapTo C s.kept s.t i : EReal) then 0 else 1 := by
    show (if FloatOps.cmpf (F := Ideal) (φ := .f32) .ogt (overlapTo C s.kept s.t i) limit = 1#1 then Ideal.ofBits .f32 0x00000000#32
      else Ideal.ofBits .f32 0x3F800000#32) = _
    rw [Ideal.ofBits_zero_f32, one_eq]
    simp only [ogt_iff]
  rw [e]
  split
  · rename_i h
    obtain ⟨j, hj, hd⟩ := hlim.mp h
    exact ⟨fun h => absurd h (lt_irrefl _), fun h => absurd hd (h j hj)⟩
  · rename_i h
    exact ⟨fun _ j hj hd => h (hlim.mpr ⟨j, hj, hd⟩), fun _ => zero_lt_one⟩

/-- Another box is kept exactly when one is alive and rows are left. -/
theorem more_iff (al : FVec Ideal S8x128 .f32) (t : ℕ) (ht : t ≤ 1000) :
    more al t = 1#1 ↔ (∃ i, 0 < (al i : EReal)) ∧ t < 1000 := by
  have h0 : (Scalar.ofBits (F := Ideal) .f32 0x00000000#32 : EReal) = 0 := Ideal.ofBits_zero_f32
  have h1 : Scalar.cmpf .ogt (k0_pay14 al) (Scalar.ofBits (F := Ideal) .f32 0x00000000#32) = 1#1 ↔ ∃ i, 0 < (al i : EReal) := by
    refine (ogt_iff _ _).trans ?_
    rw [h0, lt_maxAll]
  have h2 : Scalar.cmpi .slt (BitVec.ofNat 32 t) 1000#32 = 1#1 ↔ t < 1000 := by
    show BitVec.ofBool (BitVec.slt (BitVec.ofNat 32 t) 1000#32) = 1#1 ↔ _
    have e : (BitVec.ofNat 32 t).slt 1000#32 = decide (t < 1000) := by
      rw [BitVec.slt, BitVec.toInt_eq_toNat_of_lt (by rw [BitVec.toNat_ofNat]; omega), BitVec.toNat_ofNat]
      simp only [Nat.reducePow]
      rw [Nat.mod_eq_of_lt (by omega)]
      simp
    rw [e]
    by_cases h : t < 1000 <;> simp [h]
  rw [← h1, ← h2]
  unfold more
  generalize Scalar.cmpf .ogt (k0_pay14 al) (Scalar.ofBits (F := Ideal) .f32 0x00000000#32) = a
  generalize Scalar.cmpi .slt (BitVec.ofNat 32 t) 1000#32 = b
  show a &&& b = 1#1 ↔ _
  revert a b; decide

/-! ## The first box alive -/

/-- A place's number in its block. -/
def place (i : S8x128.Idx) : ℕ := 128 * (i 0).val + (i 1).val

/-- A block has 1024 places. -/
theorem place_lt (i : S8x128.Idx) : place i < 1024 := by
  have h0 : (i 0).val < 8 := (i 0).isLt
  have h1 : (i 1).val < 128 := (i 1).isLt
  unfold place; omega

/-- Two places with one number are one. -/
theorem place_inj {i j : S8x128.Idx} (h : place i = place j) : i = j := by
  have hi1 : (i 1).val < 128 := (i 1).isLt
  have hj1 : (j 1).val < 128 := (j 1).isLt
  unfold place at h
  funext a
  match a with
  | 0 => exact Fin.ext (by omega)
  | 1 => exact Fin.ext (by omega)

/-- The kernel's numbering of a block. -/
theorem pay2_apply (i : S8x128.Idx) : k0_pay2 i = BitVec.ofNat 32 (place i) := by
  show BitVec.ofNat 32 (0 * 8 + (i 0).val) * 128#32 + BitVec.ofNat 32 (0 * 128 + (i 1).val) = _
  rw [show (128#32 : BitVec 32) = BitVec.ofNat 32 128 from rfl, ← BitVec.ofNat_mul, ← BitVec.ofNat_add]
  congr 1
  unfold place; omega

/-- A small number is its own signed reading. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The least of two words, as a signed number. -/
theorem toInt_min (x y : BitVec 32) : (IntOp.minsi x y).toInt = min x.toInt y.toInt := by
  unfold IntOp.minsi
  rw [min_def]
  by_cases h : x.slt y = true
  · rw [if_pos h, if_pos (BitVec.slt_iff_toInt_lt.mp h).le]
  · rw [if_neg h]
    have : y.toInt ≤ x.toInt := not_lt.mp fun hl => h (BitVec.slt_iff_toInt_lt.mpr hl)
    split
    · rename_i h2; exact le_antisymm this h2
    · rfl

/-- A block's least entry, as a signed word. -/
def minAll (v : IVec S8x128 32) : BitVec 32 :=
  extractAt ![0, 0, 0] (shapeCast S1x1x1 (multiReductionI .minsi [1, 2] S1 (shapeCast S1x8x128 v shapeCasts_S8x128_S1x8x128)
    2147483647#32 reduces_S1x8x128_S1 rfl) shapeCasts_S1_S1x1x1) inpos_S1x1x1_p0_0_0

/-- A block's least entry, as a signed number, is at least `x` exactly when every entry is (`x` no more than the greatest word). -/
theorem le_minAll (v : IVec S8x128 32) (x : ℤ) (hx : x ≤ 2147483647) :
    x ≤ (minAll v).toInt ↔ ∀ i, x ≤ (v i).toInt := by
  rw [← forall_shapeCast v fun y => x ≤ y.toInt]
  refine Iff.trans (iff_of_eq (congrArg (fun w : BitVec 32 => x ≤ w.toInt) (multiReductionI_eq_fold .minsi
    (shapeCast S1x8x128 v shapeCasts_S8x128_S1x8x128) 2147483647#32 reduces_S1x8x128_S1 rfl
    (Shape.reshapeEquiv shapeCasts_S1_S1x1x1 fun a => ⟨![0, 0, 0] a, inpos_S1x1x1_p0_0_0 a⟩)))) ?_
  show x ≤ (Finset.fold IntOp.minsi 2147483647#32 _ _ : BitVec 32).toInt ↔ _
  rw [← Finset.fold_hom (op' := min) (m := BitVec.toInt) toInt_min, Finset.le_fold_min]
  constructor
  · intro h i
    exact h.2 i (by rw [Finset.mem_filter]; exact ⟨Finset.mem_univ _, Subsingleton.elim _ _⟩)
  · intro h
    exact ⟨hx, fun i _ => h i⟩

/-- The numbers of the boxes alive, a great number in the other places. -/
def numbers (al : FVec Ideal S8x128 .f32) : IVec S8x128 32 :=
  select (cmpf .ogt al (broadcast S8x128 (Scalar.ofBits (F := Ideal) .f32 0x00000000#32))) k0_pay2 (broadcast S8x128 1073741824#32)

/-- Its entries as signed numbers. -/
theorem numbers_toInt (al : FVec Ideal S8x128 .f32) (i : S8x128.Idx) :
    (numbers al i).toInt = open Classical in if 0 < (al i : EReal) then (place i : ℤ) else 1073741824 := by
  show (if FloatOps.cmpf (F := Ideal) (φ := .f32) .ogt (al i) (Ideal.ofBits .f32 0x00000000#32) = 1#1 then k0_pay2 i else 1073741824#32).toInt = _
  simp only [ogt_iff]
  rw [Ideal.ofBits_zero_f32]
  split
  · rw [pay2_apply, toInt_small (by have := place_lt i; omega)]
  · decide

/-- The kernel's mask of the picked box: where the number is the least. -/
theorem pay16_eq (al : FVec Ideal S8x128 .f32) :
    k0_pay16 k0_pay2 al = cmpi .eq k0_pay2 (broadcast S8x128 (minAll (numbers al))) := by
  unfold k0_pay16 minAll numbers; rfl

/-- The least number is that of the first box alive. -/
theorem minAll_numbers (al : FVec Ideal S8x128 .f32) (i₀ : S8x128.Idx) (h₀ : 0 < (al i₀ : EReal))
    (hmin : ∀ i, 0 < (al i : EReal) → place i₀ ≤ place i) : minAll (numbers al) = BitVec.ofNat 32 (place i₀) := by
  have hm := le_minAll (numbers al)
  have hn := numbers_toInt al
  generalize numbers al = v at hm hn
  generalize minAll v = w at hm
  have hp := place_lt i₀
  have hle : (place i₀ : ℤ) ≤ w.toInt := by
    refine (hm _ (by omega)).mpr fun i => ?_
    rw [hn i]
    split
    · rename_i hp; exact_mod_cast hmin i hp
    · omega
  have hwlt : w.toInt ≤ 2147483647 := by have := BitVec.toInt_lt (x := w); norm_num at this; omega
  have hge : w.toInt ≤ (place i₀ : ℤ) := by
    have := (hm w.toInt hwlt).mp le_rfl i₀
    rwa [hn, if_pos h₀] at this
  refine BitVec.eq_of_toInt_eq ?_
  rw [toInt_small (by omega)]
  exact le_antisymm hge hle

/-- The place that the kernel picks is that of the first box alive. -/
theorem pay16_iff (al : FVec Ideal S8x128 .f32) (i₀ : S8x128.Idx) (h₀ : 0 < (al i₀ : EReal))
    (hmin : ∀ i, 0 < (al i : EReal) → place i₀ ≤ place i) (i : S8x128.Idx) : k0_pay16 k0_pay2 al i = 1#1 ↔ i = i₀ := by
  rw [pay16_eq, minAll_numbers al i₀ h₀ hmin]
  show BitVec.ofBool (k0_pay2 i == BitVec.ofNat 32 (place i₀)) = 1#1 ↔ _
  rw [pay2_apply]
  constructor
  · intro h
    have he : BitVec.ofNat 32 (place i) = BitVec.ofNat 32 (place i₀) := by
      by_contra hne
      rw [beq_eq_false_iff_ne.mpr hne] at h
      exact absurd h (by decide)
    have := congrArg BitVec.toNat he
    rw [BitVec.toNat_ofNat, BitVec.toNat_ofNat, Nat.mod_eq_of_lt (by have := place_lt i; omega),
      Nat.mod_eq_of_lt (by have := place_lt i₀; omega)] at this
    exact place_inj this
  · rintro rfl
    rw [beq_self_eq_true]; rfl

/-- The picked box's score is the greatest entry under the mask. -/
theorem pay17_eq (v6 : IVec S8x128 32) (v al : FVec Ideal S8x128 .f32) : k0_pay17 v6 v al
    = k0_pay14 (select (k0_pay16 v6 al) v (broadcast S8x128 (Scalar.ofBits (F := Ideal) .f32 0xF149F2CA#32))) := by
  unfold k0_pay17 k0_pay14; rfl
/-- So is its `x1`. -/
theorem pay18_eq (v6 : IVec S8x128 32) (v al : FVec Ideal S8x128 .f32) : k0_pay18 v6 v al
    = k0_pay14 (select (k0_pay16 v6 al) v (broadcast S8x128 (Scalar.ofBits (F := Ideal) .f32 0xF149F2CA#32))) := by
  unfold k0_pay18 k0_pay14; rfl
/-- So is its `y1`. -/
theorem pay19_eq (v6 : IVec S8x128 32) (v al : FVec Ideal S8x128 .f32) : k0_pay19 v6 v al
    = k0_pay14 (select (k0_pay16 v6 al) v (broadcast S8x128 (Scalar.ofBits (F := Ideal) .f32 0xF149F2CA#32))) := by
  unfold k0_pay19 k0_pay14; rfl
/-- So is its `x2`. -/
theorem pay20_eq (v6 : IVec S8x128 32) (v al : FVec Ideal S8x128 .f32) : k0_pay20 v6 v al
    = k0_pay14 (select (k0_pay16 v6 al) v (broadcast S8x128 (Scalar.ofBits (F := Ideal) .f32 0xF149F2CA#32))) := by
  unfold k0_pay20 k0_pay14; rfl
/-- So is its `y2`. -/
theorem pay21_eq (v6 : IVec S8x128 32) (v al : FVec Ideal S8x128 .f32) : k0_pay21 v6 v al
    = k0_pay14 (select (k0_pay16 v6 al) v (broadcast S8x128 (Scalar.ofBits (F := Ideal) .f32 0xF149F2CA#32))) := by
  unfold k0_pay21 k0_pay14; rfl

/-- A block reshaped to its own shape is itself; the same of the four columns below. -/
theorem pay4_eq (v : FVec Ideal S8x128 .f32) : k0_pay4 v = v := shapeCast_self _ _
theorem pay5_eq (v : FVec Ideal S8x128 .f32) : k0_pay5 v = v := shapeCast_self _ _
theorem pay6_eq (v : FVec Ideal S8x128 .f32) : k0_pay6 v = v := shapeCast_self _ _
theorem pay7_eq (v : FVec Ideal S8x128 .f32) : k0_pay7 v = v := shapeCast_self _ _
theorem pay8_eq (v : FVec Ideal S8x128 .f32) : k0_pay8 v = v := shapeCast_self _ _

/-- The picked box: each of its entries is the first alive box's, no lower than the lowest score. -/
theorem pick_eq (C : Chunk Ideal) (al : FVec Ideal S8x128 .f32) (i₀ : S8x128.Idx) (h₀ : 0 < (al i₀ : EReal))
    (hmin : ∀ i, 0 < (al i : EReal) → place i₀ ≤ place i) :
    (pickS C al : EReal) = max (C.s i₀ : EReal) low ∧ ((pick C al).x1 : EReal) = max (C.x1 i₀ : EReal) low
    ∧ ((pick C al).y1 : EReal) = max (C.y1 i₀ : EReal) low ∧ ((pick C al).x2 : EReal) = max (C.x2 i₀ : EReal) low
    ∧ ((pick C al).y2 : EReal) = max (C.y2 i₀ : EReal) low := by
  have hm := pay16_iff al i₀ h₀ hmin
  have hp := fun v => maxAll_pick (k0_pay16 k0_pay2 al) v i₀ hm
  refine ⟨?_, ?_, ?_, ?_, ?_⟩
  · rw [← hp C.s, ← pay17_eq]
    show k0_pay17 k0_pay2 (k0_pay4 C.s) al = _
    rw [pay4_eq]
  · rw [← hp C.x1, ← pay18_eq]
    show k0_pay18 k0_pay2 (k0_pay5 C.x1) al = _
    rw [pay5_eq]
  · rw [← hp C.y1, ← pay19_eq]
    show k0_pay19 k0_pay2 (k0_pay6 C.y1) al = _
    rw [pay6_eq]
  · rw [← hp C.x2, ← pay20_eq]
    show k0_pay20 k0_pay2 (k0_pay7 C.x2) al = _
    rw [pay7_eq]
  · rw [← hp C.y2, ← pay21_eq]
    show k0_pay21 k0_pay2 (k0_pay8 C.y2) al = _
    rw [pay8_eq]

/-- A picked box's area is its sides' product. -/
theorem pick_fair (C : Chunk Ideal) (al : FVec Ideal S8x128 .f32) : (pick C al).Fair := by
  show k0_pay22 k0_pay2 (k0_pay5 C.x1) (k0_pay6 C.y1) (k0_pay7 C.x2) (k0_pay8 C.y2) al
    = Scalar.mulf (Scalar.subf (k0_pay20 k0_pay2 (k0_pay7 C.x2) al) (k0_pay18 k0_pay2 (k0_pay5 C.x1) al))
      (Scalar.subf (k0_pay21 k0_pay2 (k0_pay8 C.y2) al) (k0_pay19 k0_pay2 (k0_pay6 C.y1) al))
  unfold k0_pay22; rfl

/-- A tame box is picked as it is. -/
theorem pick_box (C : Chunk Ideal) (al : FVec Ideal S8x128 .f32) (i₀ : S8x128.Idx) (h₀ : 0 < (al i₀ : EReal))
    (hmin : ∀ i, 0 < (al i : EReal) → place i₀ ≤ place i) (hs : half ≤ (C.s i₀ : EReal)) (ht : Tame (C.box i₀)) :
    (pick C al).box (pickS C al) = C.box i₀ := by
  obtain ⟨e0, e1, e2, e3, e4⟩ := pick_eq C al i₀ h₀ hmin
  refine Box.ext ?_ ?_ ?_ ?_ ?_
  · exact e0.trans (max_eq_left (low_lt_half.le.trans hs))
  · exact e1.trans (max_eq_left ht.x1.2)
  · exact e2.trans (max_eq_left ht.y1.2)
  · exact e3.trans (max_eq_left ht.x2.2)
  · exact e4.trans (max_eq_left ht.y2.2)

/-- What a box of a block is after one with the corners given was kept: alive if it was and is not dropped. -/
theorem pay25_apply (C : Chunk Ideal) (al : FVec Ideal S8x128 .f32) (k : Kept Ideal) (hk : k.Fair) (v104 v105 : FVec Ideal S8x128 .f32)
    (h104 : v104 = maximumf (broadcast S8x128 k.x1) (k0_pay5 C.x1)) (h105 : v105 = broadcast S8x128 k.y1) (i : S8x128.Idx) :
    k0_pay25 (k0_pay6 C.y1) (k0_pay7 C.x2) (k0_pay8 C.y2) (k0_pay9 C.x1 C.y1 C.x2 C.y2) al k.x2 k.y2 k.ar v104 v105 i
    = Scalar.select (FloatOps.cmpf (F := Ideal) (φ := .f32) .ogt (iou (k.box 0) (C.box i)) limit)
        (Ideal.ofBits .f32 0x00000000#32) (al i) := by
  have hk' : k.ar = ((k.x2 : EReal) - k.x1) * ((k.y2 : EReal) - k.y1) := hk
  rw [h104, h105, hk']
  unfold k0_pay9
  rw [pay5_eq, pay6_eq, pay7_eq, pay8_eq]
  unfold iou inter Box.area
  rw [← Ideal.ofBits_zero_f32]
  rfl

/-- After a pick the boxes alive are those that the picked box does not drop. -/
theorem aliveNext_pos (C : Chunk Ideal) (al : FVec Ideal S8x128 .f32) (i : S8x128.Idx) :
    0 < (aliveNext C al i : EReal) ↔ 0 < (al i : EReal) ∧ ¬ drops ((pick C al).box 0) (C.box i) := by
  have e : (aliveNext C al i : EReal) = open Classical in if limit < iou ((pick C al).box 0) (C.box i) then 0 else (al i : EReal) := by
    have e1 := pay25_apply C al (pick C al) (pick_fair C al) (k0_pay23 k0_pay2 (k0_pay5 C.x1) al) (k0_pay24 k0_pay2 (k0_pay6 C.y1) al)
      (by unfold k0_pay23; rfl) (by unfold k0_pay24; rfl) i
    refine Eq.trans (e1) ?_
    show (if FloatOps.cmpf (F := Ideal) (φ := .f32) .ogt (iou ((pick C al).box 0) (C.box i)) limit = 1#1 then
        Ideal.ofBits .f32 0x00000000#32 else (al i : EReal)) = _
    simp only [ogt_iff]
    rw [Ideal.ofBits_zero_f32]
  rw [e]
  unfold drops
  split
  · rename_i h
    exact ⟨fun h => absurd h (lt_irrefl _), fun h' => absurd h h'.2⟩
  · rename_i h
    exact ⟨fun h' => ⟨h', h⟩, fun h' => h'.1⟩

/-! ## A kept box's row -/

/-- A kept box is shown if it scores enough and both its sides are long enough. -/
theorem shown_iff (sc : Ideal .f32) (k : Kept Ideal) : shown sc k = 1#1
    ↔ half ≤ (sc : EReal) ∧ forty ≤ (k.x2 : EReal) - k.x1 ∧ forty ≤ (k.y2 : EReal) - k.y1 := by
  have h1 := oge_iff sc half
  have h2 := oge_iff ((k.x2 : EReal) - k.x1) forty
  have h3 := oge_iff ((k.y2 : EReal) - k.y1) forty
  rw [← h1, ← h2, ← h3]
  show (FloatOps.cmpf (F := Ideal) (φ := .f32) .oge sc half &&& FloatOps.cmpf (F := Ideal) (φ := .f32) .oge ((k.x2 : EReal) - k.x1) forty)
    &&& FloatOps.cmpf (F := Ideal) (φ := .f32) .oge ((k.y2 : EReal) - k.y1) forty = 1#1 ↔ _
  generalize FloatOps.cmpf (F := Ideal) (φ := .f32) .oge sc half = a
  generalize FloatOps.cmpf (F := Ideal) (φ := .f32) .oge ((k.x2 : EReal) - k.x1) forty = b
  generalize FloatOps.cmpf (F := Ideal) (φ := .f32) .oge ((k.y2 : EReal) - k.y1) forty = c
  revert a b c; decide

/-- The row that is written, on its first six columns: the kept box's row if it scores enough, else noughts. -/
theorem rowOf_apply (sc : Ideal .f32) (k : Kept Ideal) (j : Fin 6) :
    (K.rowOf sc k (ValueIdx.ix2 0 ⟨j.val, by have := j.isLt; show j.val < 8; omega⟩) : EReal)
      = open Classical in if half ≤ (sc : EReal) then Cert.Proof.rowOf (k.box sc) j else 0 := by
  have e : ∀ i : S1x8.Idx, (K.rowOf sc k i : EReal) = if shown sc k = 1#1 then
      (if IntOp.cmpi .eq (cols i) 5#32 = 1#1 then (k.y2 : EReal) else
       if IntOp.cmpi .eq (cols i) 4#32 = 1#1 then (k.x2 : EReal) else
       if IntOp.cmpi .eq (cols i) 3#32 = 1#1 then (k.y1 : EReal) else
       if IntOp.cmpi .eq (cols i) 2#32 = 1#1 then (k.x1 : EReal) else
       if IntOp.cmpi .eq (cols i) 1#32 = 1#1 then (sc : EReal) else Ideal.ofBits .f32 0x00000000#32)
      else Ideal.ofBits .f32 0x00000000#32 := by
    intro i
    rw [show K.rowOf sc k i = Scalar.select (shown sc k) (k0_pay15 cols k.x1 k.y1 k.x2 k.y2 1#1 (k0_pay28 cols sc) 2#32)
      (broadcast S1x8 (Scalar.ofBits (F := Ideal) .f32 0x00000000#32)) i from rfl]
    by_cases h : shown sc k = 1#1
    · rw [h]; rfl
    · rw [if_neg h]
      show (if shown sc k = 1#1 then _ else _ : S1x8.Idx → Ideal .f32) i = _
      rw [if_neg h]; rfl
  rw [e, Ideal.ofBits_zero_f32]
  have hc : cols (ValueIdx.ix2 0 ⟨j.val, by have := j.isLt; show j.val < 8; omega⟩) = BitVec.ofNat 32 j.val := by
    show BitVec.ofNat 32 (0 * 8 + j.val) = _
    rw [Nat.zero_mul, Nat.zero_add]
  rw [hc]
  simp only [shown_iff]
  unfold Cert.Proof.rowOf
  by_cases h1 : half ≤ (sc : EReal)
  · rw [if_pos h1]
    by_cases h2 : forty ≤ (k.x2 : EReal) - k.x1 ∧ forty ≤ (k.y2 : EReal) - k.y1
    · rw [if_pos ⟨h1, h2⟩, if_pos (show forty ≤ (k.box sc).x2 - (k.box sc).x1 ∧ forty ≤ (k.box sc).y2 - (k.box sc).y1 from h2)]
      fin_cases j <;> rfl
    · rw [if_neg fun h => h2 h.2, if_neg (show ¬ (forty ≤ (k.box sc).x2 - (k.box sc).x1 ∧ forty ≤ (k.box sc).y2 - (k.box sc).y1) from h2)]
      rfl
  · rw [if_neg fun h => h1 h.1, if_neg h1]

/-! ## The blocks -/

/-- A block has a box that scores enough exactly when its greatest score does. -/
theorem anyGood_iff (P : Planes Ideal) (ci : ℕ) : anyGood P ci = 1#1 ↔ ∃ i, half ≤ (blockOf P.s ci i : EReal) := by
  have e : k0_pay3 (blockOf P.s ci) = k0_pay14 (blockOf P.s ci) := by
    unfold k0_pay3 k0_pay14
    rw [shapeCast_self]
  unfold anyGood
  rw [e]
  refine (oge_iff _ _).trans ?_
  constructor
  · intro h
    haveI : Nonempty S8x128.Idx := ⟨ValueIdx.ix2 0 0⟩
    obtain ⟨i₀, hi₀⟩ := Finite.exists_max fun i => (blockOf P.s ci i : EReal)
    exact ⟨i₀, le_trans h ((maxAll_le _ _).mpr hi₀)⟩
  · rintro ⟨i, hi⟩
    exact le_maxAll _ hi

end Cert.Proof.K

end
-- ==== Proof.KValue.lean ====
/-
  What the region writes, over the extended reals: the table of the suppression on the boxes in the order in which the
  planes hold them, given that the boxes that score enough come first and are tame.
-/
module

public import proofs.«01_k».proof.Proof.KBlock

@[expose] public section

noncomputable section

namespace Cert.Proof.K

open Cert.KernelIdeal Cert.KernelIdeal.Gen
open Idealize.ShloMosaic

/-- Box number `p` of the planes, counted along their rows. -/
def Planes.box (P : Planes Ideal) (p : ℕ) : Box :=
  let i : S160x128.Idx := ValueIdx.ix2 ⟨p / 128 % 160, Nat.mod_lt _ (by decide)⟩ ⟨p % 128, Nat.mod_lt _ (by decide)⟩
  ⟨P.s i, P.x1 i, P.y1 i, P.x2 i, P.y2 i⟩

/-- A block's entry is the plane's at the box's number. -/
theorem blockOf_apply (f : FVec Ideal S160x128 .f32) (ci : ℕ) (i : S8x128.Idx) : blockOf (F := Ideal) f ci i
    = f (ValueIdx.ix2 ⟨(1024 * ci + place i) / 128 % 160, Nat.mod_lt _ (by decide)⟩
        ⟨(1024 * ci + place i) % 128, Nat.mod_lt _ (by decide)⟩) := by
  have h1 : (i 1).val < 128 := (i 1).isLt
  unfold blockOf
  congr 1
  have e1 : (8 * ci + (i 0).val) % 160 = (1024 * ci + place i) / 128 % 160 := by
    congr 1
    unfold place
    omega
  have e2 : (i 1).val = (1024 * ci + place i) % 128 := by unfold place; omega
  congr 1
  · exact Fin.ext e1
  · exact Fin.ext e2

/-- A block's boxes are the planes' boxes from its first on. -/
theorem chunk_box (P : Planes Ideal) (ci : ℕ) (i : S8x128.Idx) : (chunkOf P ci).box i = P.box (1024 * ci + place i) := by
  unfold Chunk.box chunkOf
  simp only [blockOf_apply]
  rfl

/-- Every number in a block is a place of it. -/
theorem exists_place {ci p : ℕ} (h1 : 1024 * ci ≤ p) (h2 : p < 1024 * (ci + 1)) : ∃ i : S8x128.Idx, p = 1024 * ci + place i := by
  refine ⟨ValueIdx.ix2 ⟨(p - 1024 * ci) / 128, by omega⟩ ⟨(p - 1024 * ci) % 128, Nat.mod_lt _ (by decide)⟩, ?_⟩
  show p = 1024 * ci + (128 * ((p - 1024 * ci) / 128) + (p - 1024 * ci) % 128)
  omega

/-- What is asked of the planes: a box before one that scores enough scores enough, and is tame if it does. -/
structure Ready (P : Planes Ideal) : Prop where
  sorted : ∀ p q, p < q → q < 20480 → half ≤ (P.box q).s → half ≤ (P.box p).s
  tame : ∀ p, p < 20480 → half ≤ (P.box p).s → Tame (P.box p)

variable {P : Planes Ideal}

/-- The result's rows: the first `t` are the table's, the others noughts. -/
def Rows (P : Planes Ideal) (s : St Ideal) : Prop :=
  ∀ (r : Fin 1000) (j : Fin 6), (s.out (ValueIdx.ix2 r ⟨j.val, by have := j.isLt; show j.val < 8; omega⟩) : EReal)
    = if r.val < s.t then table P.box 20480 r.val j else 0

/-- Before block `ci`: no box of an earlier block is left, and a box of a later one is if no kept box drops it. -/
structure Mid (P : Planes Ideal) (ci : ℕ) (s : St Ideal) : Prop where
  fair : ∀ j < s.t, (s.kept j).Fair
  later : ∀ p, 1024 * ci ≤ p → p < 20480 → half ≤ (P.box p).s →
    (Left P.box 20480 s.t p ↔ ∀ j < s.t, ¬ drops ((s.kept j).box 0) (P.box p))
  before : ∀ p, p < 1024 * ci → ¬ Left P.box 20480 s.t p

/-- Inside block `ci`: besides that, the boxes of the block that are alive are those left, among those that score enough. -/
structure In (P : Planes Ideal) (ci : ℕ) (al : FVec Ideal S8x128 .f32) (s : St Ideal) : Prop where
  fair : ∀ j < s.t, (s.kept j).Fair
  alive : ∀ i, half ≤ (P.box (1024 * ci + place i)).s → (0 < (al i : EReal) ↔ Left P.box 20480 s.t (1024 * ci + place i))
  later : ∀ p, 1024 * (ci + 1) ≤ p → p < 20480 → half ≤ (P.box p).s →
    (Left P.box 20480 s.t p ↔ ∀ j < s.t, ¬ drops ((s.kept j).box 0) (P.box p))
  before : ∀ p, p < 1024 * ci → ¬ Left P.box 20480 s.t p

/-- What holds between two blocks holds at the inner loop's start. -/
theorem Mid.enter {ci : ℕ} {s : St Ideal} (hci : ci < 20) (h : Mid P ci s) : In P ci (alive0 (chunkOf P ci) s) s where
  fair := h.fair
  alive i hg := by
    have := place_lt i
    rw [alive0_pos _ _ h.fair, chunk_box, h.later _ (by omega) (by omega) hg]
  later p hp := h.later p (by omega)
  before := h.before

/-- With no box of the block alive, the next block comes. -/
theorem In.leave {ci : ℕ} {al : FVec Ideal S8x128 .f32} {s : St Ideal} (h : In P ci al s) (hn : ∀ i, ¬ 0 < (al i : EReal)) :
    Mid P (ci + 1) s where
  fair := h.fair
  later := h.later
  before p hp hl := by
    by_cases hc : p < 1024 * ci
    · exact h.before p hc hl
    · obtain ⟨i, rfl⟩ := exists_place (not_lt.mp hc) hp
      exact hn i ((h.alive i hl.zero.2).mpr hl)

/-- One box kept. -/
theorem In.step (hP : Ready P) {ci : ℕ} (hci : ci < 20) {al : FVec Ideal S8x128 .f32} {s : St Ideal} (h : In P ci al s)
    (hr : Rows P s) (ha : ∃ i, 0 < (al i : EReal)) :
    In P ci (aliveNext (chunkOf P ci) al) (keepOne (chunkOf P ci) al s) ∧ Rows P (keepOne (chunkOf P ci) al s) := by
  classical
  obtain ⟨i₀, h₀, hmin⟩ : ∃ i₀, 0 < (al i₀ : EReal) ∧ ∀ i, 0 < (al i : EReal) → place i₀ ≤ place i := by
    obtain ⟨i₀, hi, hm⟩ := Finset.exists_min_image (Finset.univ.filter fun i => 0 < (al i : EReal)) place
      (by obtain ⟨i, hi⟩ := ha; exact ⟨i, by simpa using hi⟩)
    exact ⟨i₀, by simpa using hi, fun i hi => hm i (by simpa using hi)⟩
  have hp0 := place_lt i₀
  have hfair : ∀ j < s.t + 1, (Function.update s.kept s.t (pick (chunkOf P ci) al) j).Fair := by
    intro j hj
    by_cases e : j = s.t
    · rw [e, Function.update_self]; exact pick_fair _ _
    · rw [Function.update_of_ne e]; exact h.fair j (by omega)
  have hkept : ∀ p : ℕ, (∀ j < s.t + 1, ¬ drops ((Function.update s.kept s.t (pick (chunkOf P ci) al) j).box 0) (P.box p))
      ↔ (∀ j < s.t, ¬ drops ((s.kept j).box 0) (P.box p)) ∧ ¬ drops ((pick (chunkOf P ci) al).box 0) (P.box p) := by
    intro p
    constructor
    · intro hd
      refine ⟨fun j hj => ?_, ?_⟩
      · have := hd j (by omega)
        rwa [Function.update_of_ne (by omega)] at this
      · have := hd s.t (by omega)
        rwa [Function.update_self] at this
    · rintro ⟨h1, h2⟩ j hj
      by_cases e : j = s.t
      · rw [e, Function.update_self]; exact h2
      · rw [Function.update_of_ne e]; exact h1 j (by omega)
  have hrows : (∀ j : Fin 6, (K.rowOf (pickS (chunkOf P ci) al) (pick (chunkOf P ci) al)
      (ValueIdx.ix2 0 ⟨j.val, by have := j.isLt; show j.val < 8; omega⟩) : EReal) = table P.box 20480 s.t j) →
      Rows P (keepOne (chunkOf P ci) al s) := by
    intro hrow r j
    show (if r.val = s.t then _ else _ : EReal) = if r.val < s.t + 1 then _ else _
    by_cases e : r.val = s.t
    · rw [if_pos e, if_pos (by omega), e]; exact hrow j
    · rw [if_neg e]
      refine (hr r j).trans ?_
      by_cases hlt : r.val < s.t
      · rw [if_pos hlt, if_pos (by omega)]
      · rw [if_neg hlt, if_neg (by omega)]
  have hcs : (chunkOf P ci).s i₀ = (P.box (1024 * ci + place i₀)).s := congrArg Box.s (chunk_box P ci i₀)
  by_cases hg : half ≤ (P.box (1024 * ci + place i₀)).s
  · -- the box picked scores enough: it is the first one left
    have hl := (h.alive i₀ hg).mp h₀
    have hf : first P.box 20480 s.t = 1024 * ci + place i₀ := by
      refine first_eq hl fun q hq => ?_
      by_cases h1 : q < 1024 * ci
      · exact absurd hq (h.before q h1)
      · by_cases h2 : q < 1024 * (ci + 1)
        · obtain ⟨i, rfl⟩ := exists_place (not_lt.mp h1) h2
          have := hmin i ((h.alive i hq.zero.2).mpr hq)
          omega
        · omega
    have ht : Tame (P.box (1024 * ci + place i₀)) := hP.tame _ (by omega) hg
    have hb : (pick (chunkOf P ci) al).box (pickS (chunkOf P ci) al) = P.box (1024 * ci + place i₀) := by
      rw [← chunk_box]
      refine pick_box _ _ i₀ h₀ hmin ?_ ?_
      · rw [hcs]; exact hg
      · rw [chunk_box]; exact ht
    have hd : ∀ q, drops ((pick (chunkOf P ci) al).box 0) q ↔ drops (P.box (1024 * ci + place i₀)) q := by
      intro q
      rw [← hb]; exact drops_box _ _ _ _
    have hs : ∀ p, Left P.box 20480 (s.t + 1) p ↔ Left P.box 20480 s.t p ∧ ¬ drops ((pick (chunkOf P ci) al).box 0) (P.box p) := by
      intro p
      rw [left_succ, hf, hd]
      constructor
      · rintro ⟨a, _, c⟩; exact ⟨a, c⟩
      · rintro ⟨a, c⟩
        exact ⟨a, fun e => c (e ▸ ht.drops_self), c⟩
    refine ⟨⟨hfair, ?_, ?_, ?_⟩, hrows fun j => ?_⟩
    · intro i hi
      rw [aliveNext_pos, chunk_box, h.alive i hi]
      exact (hs _).symm
    · intro p hp hpn hpg
      show Left P.box 20480 (s.t + 1) p ↔ ∀ j < s.t + 1, _
      rw [hs, h.later p hp hpn hpg]
      exact (hkept p).symm
    · intro p hp hl'
      exact h.before p hp hl'.of_succ
    · rw [rowOf_apply, table_some hl, hf, hb, if_pos]
      have := congrArg Box.s hb
      exact hg.trans (le_of_eq this.symm)
  · -- the box picked does not score enough: none is left
    have hnone : ∀ p, ¬ Left P.box 20480 s.t p := by
      intro p hl
      obtain ⟨hpn, hpg⟩ := hl.zero
      by_cases h1 : p < 1024 * ci
      · exact h.before p h1 hl
      · have hle : 1024 * ci + place i₀ ≤ p := by
          by_cases h2 : p < 1024 * (ci + 1)
          · obtain ⟨i, rfl⟩ := exists_place (not_lt.mp h1) h2
            have := hmin i ((h.alive i hpg).mpr hl)
            omega
          · omega
        rcases Nat.lt_or_eq_of_le hle with hlt | heq
        · exact hg (hP.sorted _ _ hlt hpn hpg)
        · exact hg (heq ▸ hpg)
    have hnone' : ∀ p, ¬ Left P.box 20480 (s.t + 1) p := fun p hl => hnone p hl.of_succ
    refine ⟨⟨hfair, ?_, ?_, ?_⟩, hrows fun j => ?_⟩
    · intro i hi
      rw [aliveNext_pos, h.alive i hi]
      exact ⟨fun hh => absurd hh.1 (hnone _), fun hh => absurd hh (hnone' _)⟩
    · intro p hp hpn hpg
      exfalso
      exact hg (hP.sorted _ _ (by omega) hpn hpg)
    · intro p _
      exact hnone' p
    · rw [rowOf_apply, table_none hnone, if_neg]
      · rfl
      · have e0 := (pick_eq (chunkOf P ci) al i₀ h₀ hmin).1
        intro hle
        refine absurd (hle.trans (le_of_eq e0)) (not_le.mpr (max_lt ?_ low_lt_half))
        exact (lt_of_eq_of_lt hcs (not_le.mp hg))

/-- After a block's loop: either all rows are written or the next block comes. -/
theorem inner_spec (hP : Ready P) {ci : ℕ} (hci : ci < 20) (n : ℕ) : ∀ (al : FVec Ideal S8x128 .f32) (s : St Ideal),
    In P ci al s → Rows P s → s.t ≤ 1000 → 1000 ≤ s.t + n →
    Rows P (inner (chunkOf P ci) n al s) ∧ (inner (chunkOf P ci) n al s).t ≤ 1000
      ∧ ((inner (chunkOf P ci) n al s).t = 1000 ∨ Mid P (ci + 1) (inner (chunkOf P ci) n al s)) := by
  induction n with
  | zero =>
    intro al s h hr ht hn
    exact ⟨hr, ht, .inl (le_antisymm ht hn)⟩
  | succ n ih =>
    intro al s h hr ht hn
    unfold inner
    by_cases hm : more al s.t = 1#1
    · rw [if_pos hm]
      obtain ⟨ha, hlt⟩ := (more_iff al s.t ht).mp hm
      obtain ⟨h', hr'⟩ := h.step hP hci hr ha
      exact ih _ _ h' hr' (show s.t + 1 ≤ 1000 by omega) (show 1000 ≤ s.t + 1 + n by omega)
    · rw [if_neg hm]
      refine ⟨hr, ht, ?_⟩
      by_cases e : s.t = 1000
      · exact .inl e
      · refine .inr (h.leave fun i hi => hm ((more_iff al s.t ht).mpr ⟨⟨i, hi⟩, by omega⟩))

/-- At the end: the first rows are the table's, and the table has noughts in the others. -/
structure Final (P : Planes Ideal) (s : St Ideal) : Prop where
  rows : Rows P s
  rest : ∀ r, s.t ≤ r → r < 1000 → table P.box 20480 r = 0

/-- With all 1000 rows written the table is done. -/
theorem final_of_full {s : St Ideal} (hr : Rows P s) (ht : s.t = 1000) : Final P s :=
  ⟨hr, fun r h1 h2 => by omega⟩

/-- With no box left the table is done. -/
theorem final_of_none {s : St Ideal} (hr : Rows P s) (hn : ∀ p, ¬ Left P.box 20480 s.t p) : Final P s :=
  ⟨hr, fun _ h1 _ => table_none fun p hp => hn p (hp.mono h1)⟩

/-- The branch is taken when its bit is set. -/
theorem cond1_iff (v : BitVec 1) : k0_cond1 v = 1#1 ↔ v = 1#1 := by
  revert v; decide

/-- The outer loop goes on if the block had a box that scores enough, there is another block, and there are rows to write. -/
theorem goOn_iff (ci t : ℕ) (hci : ci < 20) (ht : t ≤ 1000) :
    goOn P ci t = 1#1 ↔ anyGood P ci = 1#1 ∧ ci + 1 < 20 ∧ t < 1000 := by
  have key : ∀ a b : ℕ, a < 2 ^ 31 → b < 2 ^ 31 → (Scalar.cmpi .slt (BitVec.ofNat 32 a) (BitVec.ofNat 32 b) = 1#1 ↔ a < b) := by
    intro a b ha hb
    show BitVec.ofBool (BitVec.slt _ _) = 1#1 ↔ _
    have e : (BitVec.ofNat 32 a).slt (BitVec.ofNat 32 b) = decide (a < b) := by
      rw [BitVec.slt, toInt_small ha, toInt_small hb]
      simp
    rw [e]
    by_cases h : a < b <;> simp [h]
  rw [← key (ci + 1) 20 (by omega) (by omega), ← key t 1000 (by omega) (by omega)]
  unfold goOn
  show (_ &&& _) &&& _ = 1#1 ↔ _
  generalize anyGood P ci = a
  show (a &&& Scalar.cmpi .slt (BitVec.ofNat 32 (ci + 1)) (BitVec.ofNat 32 20)) &&& Scalar.cmpi .slt (BitVec.ofNat 32 t) (BitVec.ofNat 32 1000) = 1#1 ↔ _
  generalize Scalar.cmpi .slt (BitVec.ofNat 32 (ci + 1)) (BitVec.ofNat 32 20) = b
  generalize Scalar.cmpi .slt (BitVec.ofNat 32 t) (BitVec.ofNat 32 1000) = c
  revert a b c; decide

/-- The loop over the blocks. -/
theorem outer_spec (hP : Ready P) (n : ℕ) : ∀ (ci : ℕ) (go : BitVec 1) (s : St Ideal), n + ci = 20 →
    (go = 1#1 → ci < 20 ∧ Mid P ci s ∧ Rows P s ∧ s.t ≤ 1000) → (go ≠ 1#1 → Final P s) → Final P (outer P n ci go s) := by
  induction n with
  | zero =>
    intro ci go s hn h1 h2
    by_cases hg : go = 1#1
    · have := (h1 hg).1; omega
    · exact h2 hg
  | succ n ih =>
    intro ci go s hn h1 h2
    unfold outer
    by_cases hg : go = 1#1
    · rw [if_pos hg]
      obtain ⟨hci, hm, hr, ht⟩ := h1 hg
      by_cases ha : anyGood P ci = 1#1
      · have hb : blockStep P ci s = inner (chunkOf P ci) (1000 - s.t) (alive0 (chunkOf P ci) s) s := by
          unfold blockStep; rw [if_pos ((cond1_iff _).mpr ha)]
        obtain ⟨hr', ht', hd⟩ := inner_spec hP hci (1000 - s.t) _ s (hm.enter hci) hr ht (by omega)
        rw [← hb] at hr' ht' hd
        refine ih _ _ _ (by omega) (fun hgo => ?_) (fun hgo => ?_)
        · obtain ⟨_, h20, hlt⟩ := (goOn_iff ci _ hci ht').mp hgo
          exact ⟨h20, hd.resolve_left (by omega), hr', ht'⟩
        · rcases hd with hd | hd
          · exact final_of_full hr' hd
          · by_cases hfull : (blockStep P ci s).t = 1000
            · exact final_of_full hr' hfull
            · have h20 : ¬ ci + 1 < 20 := fun h20 => hgo ((goOn_iff ci _ hci ht').mpr ⟨ha, h20, by omega⟩)
              have hnone : ∀ p, ¬ Left P.box 20480 (blockStep P ci s).t p := fun p hp => by
                generalize blockStep P ci s = s' at hd hp
                have := hp.zero.1
                exact hd.before p (by omega) hp
              exact final_of_none hr' hnone
      · have hb : blockStep P ci s = s := by
          unfold blockStep; rw [if_neg fun h => ha ((cond1_iff _).mp h)]
        rw [hb]
        refine ih _ _ _ (by omega) (fun hgo => absurd ((goOn_iff ci _ hci ht).mp hgo).1 ha) (fun _ => ?_)
        refine final_of_none hr fun p hp => ?_
        by_cases hc : p < 1024 * ci
        · exact hm.before p hc hp
        · obtain ⟨hpn, hpg⟩ := hp.zero
          refine ha ((anyGood_iff P ci).mpr ⟨ValueIdx.ix2 0 0, ?_⟩)
          have e : (blockOf P.s ci (ValueIdx.ix2 0 0) : EReal) = (P.box (1024 * ci)).s :=
            congrArg Box.s (chunk_box P ci (ValueIdx.ix2 0 0))
          rw [e]
          rcases Nat.lt_or_eq_of_le (not_lt.mp hc) with hlt | heq
          · exact hP.sorted _ _ hlt hpn hpg
          · exact heq ▸ hpg
    · rw [if_neg hg]; exact h2 hg

/-- What the region writes, on the six columns that are kept: the table. -/
theorem result_eq (hP : Ready P) (r : Fin 1000) (j : Fin 6) :
    (result P (ValueIdx.ix2 r ⟨j.val, by have := j.isLt; show j.val < 8; omega⟩) : EReal) = table P.box 20480 r.val j := by
  have h : Final P (outer P 20 0 1#1 start) := by
    refine outer_spec hP 20 0 1#1 start rfl (fun _ => ⟨by decide, ⟨?_, ?_, ?_⟩, ?_, Nat.zero_le _⟩) (fun h => absurd rfl h)
    · intro j hj; exact absurd hj (Nat.not_lt_zero _)
    · intro p _ hp hg
      exact ⟨fun _ j hj => absurd hj (Nat.not_lt_zero _), fun _ => ⟨hp, hg⟩⟩
    · intro p hp; omega
    · intro r j
      show Ideal.ofBits .f32 0x00000000#32 = if r.val < 0 then _ else _
      rw [if_neg (Nat.not_lt_zero _), Ideal.ofBits_zero_f32]
  unfold result
  rw [h.rows r j]
  split
  · rfl
  · rename_i hn
    rw [h.rest r.val (not_lt.mp hn) r.isLt]
    rfl

end Cert.Proof.K

end
-- ==== Proof.KernelValue.lean ====
/-
  What the kernel program returns: the table of the suppression on the boxes in the order of its sort.
-/
module

public import proofs.«01_k».proof.Proof.HostSort
public import proofs.«01_k».proof.Proof.KValue
public import Idealize.ShloMosaic.Lib.Pipeline.ValueKit

@[expose] public section

set_option maxRecDepth 16384

noncomputable section

namespace Cert.Proof.K

open Cert.KernelIdeal Cert.KernelIdeal.Gen
open Idealize.ShloMosaic Idealize.ShloMosaic.TcCoe Idealize.ShloMosaic.StableHlo Idealize.ShloMosaic.Tactic
open Idealize.SL Idealize.SL.RA Idealize.SL.Sem

variable (m : (ℓ : Loc nD τ sig) → Buf (Elt Ideal) ℓ) (ρ : Dev nD → PrngReg)

/-- The joined boxes of core `c`'s arguments. -/
abbrev src (c : Dev nD) : ℕ → Box :=
  source (m (c, Proc.devRef .tc main_arg0)) (m (c, Proc.devRef .tc main_arg1)) (m (c, Proc.devRef .tc main_arg2)) (m (c, Proc.devRef .tc main_arg3))

/-- The keys of the sort: the negated scores. -/
abbrev key (c : Dev nD) (k : Fin 20480) : EReal := -(src m c k.val).s

/-- A key negated is the score. -/
theorem neg_key (c : Dev nD) (k : Fin 20480) : -key m c k = (src m c k.val).s := neg_neg _

/-- The lines before the region in three parts: the padding, the sort, the planes. -/
theorem V0_eq (c : Dev nD) : V0 m c = after (planeOps (F := Ideal)) (after sortOps (after padOps (fun b => m (c, b)))) := by
  rw [← after_append, ← after_append]
  rfl

/-- The place in the planes of box number `p`. -/
abbrev cell (p : ℕ) : S160x128.Idx := ix2 ⟨p / 128 % 160, Nat.mod_lt _ (by decide)⟩ ⟨p % 128, Nat.mod_lt _ (by decide)⟩

/-- The number of the place of box `p` is `p`. -/
theorem cell_place (p : ℕ) (hp : p < 20480) : (⟨p / 128 % 160 * 128 + p % 128, by omega⟩ : Fin 20480) = ⟨p, hp⟩ :=
  Fin.ext (by dsimp only; omega)

section Sorted

variable (Y : Valuation τ sig (Elt Ideal)) (κ : Fin 20480 → EReal)

/-- What the sort puts at a place of any of its columns, where the keys are `κ`. -/
theorem sorted_at (hκ : ∀ k, ((Y (Proc.devRef .tc main_v4) : FVec Ideal S20480 .f32) (ix1 k) : EReal) = κ k) (x : S20480.Idx → EReal) (i : Fin 20480) :
    Host.sortBy S20480 0 (comparator_f32_f32_f32_f32_f32_d0 (F := Ideal)) (rowAt Y) x (ix1 i) = x (ix1 (origin κ i)) := by
  refine sortBy_ix1 _ _ κ (fun k k' => ?_) x i
  rw [comparator_eq]
  exact congrArg₂ (fun a b : EReal => BitVec.ofBool (decide (a < b))) (hκ k) (hκ k')

/-- The score at a place of the planes, from the padded columns. -/
theorem sorted_score (hκ : ∀ k, ((Y (Proc.devRef .tc main_v4) : FVec Ideal S20480 .f32) (ix1 k) : EReal) = κ k) (p : ℕ) (hp : p < 20480) :
    ((after (planeOps (F := Ideal)) (after sortOps Y) (Proc.devRef .tc main_v15) : FVec Ideal S160x128 .f32) (cell p) : EReal)
      = -κ (origin κ ⟨p, hp⟩) := by
  rw [plane_score, sort_0, ← hκ, ← cell_place p hp]
  exact congrArg (fun x : EReal => -x) (sorted_at Y κ hκ _ _)

/-- The corner's coordinate `x1` at a place of the planes, from the padded columns. -/
theorem sorted_x1 (hκ : ∀ k, ((Y (Proc.devRef .tc main_v4) : FVec Ideal S20480 .f32) (ix1 k) : EReal) = κ k) (p : ℕ) (hp : p < 20480) :
    ((after (planeOps (F := Ideal)) (after sortOps Y) (Proc.devRef .tc main_v16) : FVec Ideal S160x128 .f32) (cell p) : EReal)
      = (Y (Proc.devRef .tc main_v6) : FVec Ideal S20480 .f32) (ix1 (origin κ ⟨p, hp⟩)) := by
  rw [plane_x1, sort_1, ← cell_place p hp]
  exact sorted_at Y κ hκ _ _

/-- The corner's coordinate `y1` at a place of the planes, from the padded columns. -/
theorem sorted_y1 (hκ : ∀ k, ((Y (Proc.devRef .tc main_v4) : FVec Ideal S20480 .f32) (ix1 k) : EReal) = κ k) (p : ℕ) (hp : p < 20480) :
    ((after (planeOps (F := Ideal)) (after sortOps Y) (Proc.devRef .tc main_v17) : FVec Ideal S160x128 .f32) (cell p) : EReal)
      = (Y (Proc.devRef .tc main_v8) : FVec Ideal S20480 .f32) (ix1 (origin κ ⟨p, hp⟩)) := by
  rw [plane_y1, sort_2, ← cell_place p hp]
  exact sorted_at Y κ hκ _ _

/-- The corner's coordinate `x2` at a place of the planes, from the padded columns. -/
theorem sorted_x2 (hκ : ∀ k, ((Y (Proc.devRef .tc main_v4) : FVec Ideal S20480 .f32) (ix1 k) : EReal) = κ k) (p : ℕ) (hp : p < 20480) :
    ((after (planeOps (F := Ideal)) (after sortOps Y) (Proc.devRef .tc main_v18) : FVec Ideal S160x128 .f32) (cell p) : EReal)
      = (Y (Proc.devRef .tc main_v10) : FVec Ideal S20480 .f32) (ix1 (origin κ ⟨p, hp⟩)) := by
  rw [plane_x2, sort_3, ← cell_place p hp]
  exact sorted_at Y κ hκ _ _

/-- The corner's coordinate `y2` at a place of the planes, from the padded columns. -/
theorem sorted_y2 (hκ : ∀ k, ((Y (Proc.devRef .tc main_v4) : FVec Ideal S20480 .f32) (ix1 k) : EReal) = κ k) (p : ℕ) (hp : p < 20480) :
    ((after (planeOps (F := Ideal)) (after sortOps Y) (Proc.devRef .tc main_v19) : FVec Ideal S160x128 .f32) (cell p) : EReal)
      = (Y (Proc.devRef .tc main_v12) : FVec Ideal S20480 .f32) (ix1 (origin κ ⟨p, hp⟩)) := by
  rw [plane_y2, sort_4, ← cell_place p hp]
  exact sorted_at Y κ hκ _ _

end Sorted

/-- The region finds the plane of scores whole. -/
theorem iblk_0 (c : Dev nD) (t : Fin (cfg0 (F := Ideal)).N) :
    (iblk m c 0 t : FVec Ideal S160x128 .f32) = (V m c main_v15 : FVec Ideal S160x128 .f32) := by
  obtain rfl := fin_N0 t
  funext j
  unfold iblk
  blk_simp
  have e : (win0_0.blk t0_0).view.emb j = j := by
    funext a
    refine Fin.ext ?_
    blk_simp
    have h0 : win0_0.index t0_0 a = 0 := by fin_cases a <;> rfl
    rw [h0, Nat.zero_mul, Nat.zero_add]
  exact congrArg (V m c main_v15) e

/-- The region finds the plane of `x1` whole. -/
theorem iblk_1 (c : Dev nD) (t : Fin (cfg0 (F := Ideal)).N) :
    (iblk m c 1 t : FVec Ideal S160x128 .f32) = (V m c main_v16 : FVec Ideal S160x128 .f32) := by
  obtain rfl := fin_N0 t
  funext j
  unfold iblk
  blk_simp
  have e : (win0_1.blk t0_0).view.emb j = j := by
    funext a
    refine Fin.ext ?_
    blk_simp
    have h0 : win0_1.index t0_0 a = 0 := by fin_cases a <;> rfl
    rw [h0, Nat.zero_mul, Nat.zero_add]
  exact congrArg (V m c main_v16) e

/-- The region finds the plane of `y1` whole. -/
theorem iblk_2 (c : Dev nD) (t : Fin (cfg0 (F := Ideal)).N) :
    (iblk m c 2 t : FVec Ideal S160x128 .f32) = (V m c main_v17 : FVec Ideal S160x128 .f32) := by
  obtain rfl := fin_N0 t
  funext j
  unfold iblk
  blk_simp
  have e : (win0_2.blk t0_0).view.emb j = j := by
    funext a
    refine Fin.ext ?_
    blk_simp
    have h0 : win0_2.index t0_0 a = 0 := by fin_cases a <;> rfl
    rw [h0, Nat.zero_mul, Nat.zero_add]
  exact congrArg (V m c main_v17) e

/-- The region finds the plane of `x2` whole. -/
theorem iblk_3 (c : Dev nD) (t : Fin (cfg0 (F := Ideal)).N) :
    (iblk m c 3 t : FVec Ideal S160x128 .f32) = (V m c main_v18 : FVec Ideal S160x128 .f32) := by
  obtain rfl := fin_N0 t
  funext j
  unfold iblk
  blk_simp
  have e : (win0_3.blk t0_0).view.emb j = j := by
    funext a
    refine Fin.ext ?_
    blk_simp
    have h0 : win0_3.index t0_0 a = 0 := by fin_cases a <;> rfl
    rw [h0, Nat.zero_mul, Nat.zero_add]
  exact congrArg (V m c main_v18) e

/-- The region finds the plane of `y2` whole. -/
theorem iblk_4 (c : Dev nD) (t : Fin (cfg0 (F := Ideal)).N) :
    (iblk m c 4 t : FVec Ideal S160x128 .f32) = (V m c main_v19 : FVec Ideal S160x128 .f32) := by
  obtain rfl := fin_N0 t
  funext j
  unfold iblk
  blk_simp
  have e : (win0_4.blk t0_0).view.emb j = j := by
    funext a
    refine Fin.ext ?_
    blk_simp
    have h0 : win0_4.index t0_0 a = 0 := by fin_cases a <;> rfl
    rw [h0, Nat.zero_mul, Nat.zero_add]
  exact congrArg (V m c main_v19) e

/-- A read of the planes, once it is known of the lines that lay them out. -/
theorem V_of (c : Dev nD) (b : Ref sig .tc) (w : b.ty.Contents (Elt Ideal))
    (h : after (planeOps (F := Ideal)) (after sortOps (after padOps (fun b => m (c, b)))) (Proc.devRef .tc b) = w) : V m c b = w :=
  (congrFun (V0_eq m c) (Proc.devRef .tc b)).trans h

/-- The score at a place of the planes. -/
theorem V_score (c : Dev nD) (p : ℕ) (hp : p < 20480) : ((V m c main_v15 : FVec Ideal S160x128 .f32) (cell p) : EReal)
    = (src m c (origin (key m c) ⟨p, hp⟩).val).s := by
  refine (congrFun (V_of m c main_v15 _ rfl) (cell p)).trans ?_
  refine (sorted_score _ (key m c) (fun k => pad_score _ k) p hp).trans ?_
  exact neg_key m c _

/-- The corner's coordinate `x1` at a place of the planes. -/
theorem V_x1 (c : Dev nD) (p : ℕ) (hp : p < 20480) : ((V m c main_v16 : FVec Ideal S160x128 .f32) (cell p) : EReal)
    = (src m c (origin (key m c) ⟨p, hp⟩).val).x1 := by
  refine (congrFun (V_of m c main_v16 _ rfl) (cell p)).trans ?_
  exact (sorted_x1 _ (key m c) (fun k => pad_score _ k) p hp).trans (pad_x1 _ _)

/-- The corner's coordinate `y1` at a place of the planes. -/
theorem V_y1 (c : Dev nD) (p : ℕ) (hp : p < 20480) : ((V m c main_v17 : FVec Ideal S160x128 .f32) (cell p) : EReal)
    = (src m c (origin (key m c) ⟨p, hp⟩).val).y1 := by
  refine (congrFun (V_of m c main_v17 _ rfl) (cell p)).trans ?_
  exact (sorted_y1 _ (key m c) (fun k => pad_score _ k) p hp).trans (pad_y1 _ _)

/-- The corner's coordinate `x2` at a place of the planes. -/
theorem V_x2 (c : Dev nD) (p : ℕ) (hp : p < 20480) : ((V m c main_v18 : FVec Ideal S160x128 .f32) (cell p) : EReal)
    = (src m c (origin (key m c) ⟨p, hp⟩).val).x2 := by
  refine (congrFun (V_of m c main_v18 _ rfl) (cell p)).trans ?_
  exact (sorted_x2 _ (key m c) (fun k => pad_score _ k) p hp).trans (pad_x2 _ _)

/-- The corner's coordinate `y2` at a place of the planes. -/
theorem V_y2 (c : Dev nD) (p : ℕ) (hp : p < 20480) : ((V m c main_v19 : FVec Ideal S160x128 .f32) (cell p) : EReal)
    = (src m c (origin (key m c) ⟨p, hp⟩).val).y2 := by
  refine (congrFun (V_of m c main_v19 _ rfl) (cell p)).trans ?_
  exact (sorted_y2 _ (key m c) (fun k => pad_score _ k) p hp).trans (pad_y2 _ _)

/-- A box of the planes is what they hold at its place. -/
theorem box_cell (P : Planes Ideal) (p : ℕ) : P.box p = ⟨P.s (cell p), P.x1 (cell p), P.y1 (cell p), P.x2 (cell p), P.y2 (cell p)⟩ := rfl

/-- Equal arrays make equal planes. -/
theorem planes_congr {s s' x x' y y' z z' w w' : FVec Ideal S160x128 .f32} (hs : s = s') (hx : x = x') (hy : y = y') (hz : z = z') (hw : w = w') :
    (⟨s, x, y, z, w⟩ : Planes Ideal) = ⟨s', x', y', z', w'⟩ := by
  subst hs hx hy hz hw; rfl

/-- The region's planes are the arrays it finds. -/
theorem planesAt_eq (c : Dev nD) (t : Fin (cfg0 (F := Ideal)).N) : planesAt m c t
    = ⟨V m c main_v15, V m c main_v16, V m c main_v17, V m c main_v18, V m c main_v19⟩ :=
  planes_congr (iblk_0 m c t) (iblk_1 m c t) (iblk_2 m c t) (iblk_3 m c t) (iblk_4 m c t)

/-- The planes hold the boxes in the order of the sort. -/
theorem box_eq (c : Dev nD) (t : Fin (cfg0 (F := Ideal)).N) (p : ℕ) (hp : p < 20480) :
    (planesAt m c t).box p = src m c (origin (key m c) ⟨p, hp⟩).val := by
  rw [planesAt_eq, box_cell]
  dsimp only
  rw [V_score m c p hp, V_x1 m c p hp, V_y1 m c p hp, V_x2 m c p hp, V_y2 m c p hp]

/-- A place past the boxes holds a score that does not count. -/
theorem lt_of_counts (c : Dev nD) (j : ℕ) (h : half ≤ (src m c j).s) : j < 20000 := by
  by_contra hn
  have : (src m c j).s = low := by
    show srcScore _ _ j = low
    unfold srcScore
    rw [dif_neg (by omega), dif_neg (by omega)]
  rw [this] at h
  exact absurd h (not_le.mpr low_lt_half)

/-- The place at which the sort puts a box. -/
def spot (c : Dev nD) (j : Fin 20000) : ℕ :=
  ((Equiv.ofBijective (origin (key m c)) (origin_bijective _)).symm ⟨j.val, by omega⟩).val

/-- The sort has 20480 places. -/
theorem spot_lt (c : Dev nD) (j : Fin 20000) : spot m c j < 20480 := Fin.isLt _

/-- Where the sort puts a box, there is that box. -/
theorem origin_spot (c : Dev nD) (j : Fin 20000) : origin (key m c) ⟨spot m c j, spot_lt m c j⟩ = ⟨j.val, by omega⟩ :=
  (Equiv.ofBijective (origin (key m c)) (origin_bijective _)).apply_symm_apply ⟨j.val, by omega⟩

/-- The planes hold the boxes of the arguments in the order of their scores. -/
theorem order (c : Dev nD) (t : Fin (cfg0 (F := Ideal)).N) : Order (src m c) (planesAt m c t).box (spot m c) := by
  constructor
  · intro j
    exact spot_lt m c j
  · intro i j h
    have h2 := origin_spot m c i
    rw [show (⟨spot m c i, spot_lt m c i⟩ : Fin 20480) = ⟨spot m c j, spot_lt m c j⟩ from Fin.ext h, origin_spot] at h2
    exact (Fin.ext (Fin.mk.inj h2)).symm
  · intro j
    exact (box_eq m c t _ (spot_lt m c j)).trans (by rw [origin_spot])
  · intro p hp h
    rw [box_eq m c t p hp] at h
    refine ⟨⟨_, lt_of_counts m c _ h⟩, ?_⟩
    have h2 := origin_spot m c ⟨_, lt_of_counts m c _ h⟩
    exact Fin.mk.inj ((origin_bijective _).injective (h2.trans (Fin.ext rfl)) : (⟨spot m c _, _⟩ : Fin 20480) = ⟨p, hp⟩)
  · intro i j h
    refine not_lt.mp fun hlt => ?_
    have h2 := origin_lex (key m c) ⟨spot m c j, spot_lt m c j⟩ ⟨spot m c i, spot_lt m c i⟩ hlt
    rw [origin_spot, origin_spot] at h2
    unfold key at h2
    rw [EReal.neg_lt_neg_iff, neg_inj] at h2
    rcases h2 with h2 | ⟨h2, h3⟩
    · rcases h with h | ⟨h, _⟩
      · exact absurd h2 (not_lt.mpr h.le)
      · exact absurd h2 (by rw [h]; exact lt_irrefl _)
    · rcases h with h | ⟨_, h⟩
      · exact absurd h (by rw [h2]; exact lt_irrefl _)
      · exact absurd (show j.val < i.val from h3) (not_lt.mpr h)

/-- They are in the order that the region relies on, and tame where the arguments are. -/
theorem ready (c : Dev nD) (t : Fin (cfg0 (F := Ideal)).N) (ht : ∀ j, j < 20000 → half ≤ (src m c j).s → Tame (src m c j)) :
    Ready (planesAt m c t) := by
  constructor
  · intro p q hpq hq h
    rw [box_eq m c t q hq] at h
    rw [box_eq m c t p (hpq.trans hq)]
    rcases origin_lex (key m c) ⟨p, hpq.trans hq⟩ ⟨q, hq⟩ hpq with h2 | ⟨h2, _⟩
    · unfold key at h2
      rw [EReal.neg_lt_neg_iff] at h2
      exact h.trans h2.le
    · unfold key at h2
      rw [neg_inj] at h2
      exact h.trans h2.ge
  · intro p hp h
    rw [box_eq m c t p hp] at h ⊢
    exact ht _ (lt_of_counts m c _ h) h

/-- The region's result array ends at the result of its planes. -/
theorem arr_out (c : Dev nD) : (dats m 0 c).arrAt 5 (cfg0 (F := Ideal)).N = result (planesAt m c t0_0) := by
  refine (dats m 0 c).arrAt_eq_of_after_last 5 t0_0 (by decide +kernel) _ fun j => ?_
  blk_simp
  exact congrFun (after0_5 m c t0_0) j

/-- What the program returns on core `c`. -/
def answer (c : Dev nD) : Buf (Elt Ideal) ((c.tc : Thread nD τ).loc main_v21) :=
  Pipeline.afterTail₀ cfgs (dats m) 0 (V0 m) [hostOps1] c main_v21

/-- Every run of the program returns it, and leaves the arguments. -/
theorem run_answer : θ_run defs (onTc (τ := τ) (main (F := Ideal))) ⟨m, fun _ => 0, ρ⟩ (fun r => ∀ c : Dev nD,
      r.2.mem ((c.tc : Thread nD τ).loc main_v21) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).2 main_v21 (Pipeline.mem_restRefs_of main_v21 (by decide)
      (by exact (by decide : ∀ w, Pipeline.arrRef spec0 w ≠ main_v21))), h.2.1 c⟩)
    (θ_run_and (run_main m ρ) (frame m ρ))

/-- What it returns, at a row and a column, is the table's. -/
theorem out_eq (c : Dev nD) (ht : ∀ j, j < 20000 → half ≤ (src m c j).s → Tame (src m c j)) (r : Fin 1000) (k : Fin 6) :
    ((answer m c : FVec Ideal S1000x6 .f32) (ix2 r k) : EReal)
      = table (planesAt m c t0_0).box 20480 r.val k := by
  unfold answer Pipeline.afterTail₀
  simp only [List.flatten_cons, List.flatten_nil, List.append_nil, hostOps1]
  after_reads_simp
  clean_types
  pointwise
  rw [Pipeline.withArrays_arr spec0 (by decide) c (V0 m c) (fun w => (dats m 0 c).arrAt w (cfg0 (F := Ideal)).N) 5]
  rw [arr_out m c]
  exact result_eq (ready m c t0_0 ht) r k

end Cert.Proof.K

end
-- ==== Proof.RefStep.lean ====
/-
  One round of the reference's loop over the extended reals: which box it takes, what it writes to the results' rows,
  and which scores it leaves.
-/
module

public import proofs.«01_k».proof.Proof.RefRun
public import proofs.«01_k».proof.Proof.Greedy
public import Idealize.ShloMosaic.Lib.StableHlo.ReadAt
public import Idealize.ShloMosaic.Lib.Pointwise
public import Idealize.ShloMosaic.Lib.DynamicIndex

@[expose] public section

set_option maxRecDepth 16384

noncomputable section

namespace Cert.Proof.R

open Cert.ReferenceIdeal Cert.ReferenceIdeal.Gen
open Idealize.ShloMosaic Idealize.ShloMosaic.TcCoe Idealize.ShloMosaic.StableHlo

variable (X : Valuation τ sig (Elt Ideal))

/-- The scores that are left. -/
def scoreAt (j : Fin 20000) : EReal := (X (Proc.devRef .tc main_v5_3) : FVec Ideal S20000 .f32) (ix1 j)

/-- The boxes' corners, a column each. -/
def cornerAt (j : Fin 20000) (k : Fin 4) : EReal := (X (Proc.devRef .tc main_v5_0) : FVec Ideal S20000x4 .f32) (ix2 j k)

/-- The results' scores. -/
def keptScore (r : Fin 1000) : EReal := (X (Proc.devRef .tc main_v5_4) : FVec Ideal S1000 .f32) (ix1 r)

/-- The results' corners. -/
def keptCorner (r : Fin 1000) (k : Fin 4) : EReal := (X (Proc.devRef .tc main_v5_5) : FVec Ideal S1000x4 .f32) (ix2 r k)

/-- The box with these corners and this score. -/
def boxWith (s : EReal) (f : Fin 4 → EReal) : Box := ⟨s, f 0, f 1, f 2, f 3⟩

/-- The operations that find the place of the greatest score. -/
abbrev pickOps {F : FTy → Type} [FloatOps F] : List (HloOp τ sig (Elt F)) := cond0 ++ body0

/-- The operations that fetch the score and the box at that place. -/
abbrev fetchOps {F : FTy → Type} [FloatOps F] : List (HloOp τ sig (Elt F)) := List.take 22 body1

/-- The operations that drop boxes and write the results' rows. -/
abbrev dropOps {F : FTy → Type} [FloatOps F] : List (HloOp τ sig (Elt F)) :=
  List.drop 22 body1 ++ body2 ++ body3 ++ body4 ++ body5 ++ body6 ++ body7 ++ body8 ++ body9 ++ body10

/-- A round is the three in order. -/
theorem round_eq : (round : List (HloOp τ sig (Elt Ideal))) = pickOps ++ (fetchOps ++ dropOps) := rfl

/-- A round's end by its three parts. -/
theorem after_round : after (round (F := Ideal)) X = after dropOps (after fetchOps (after pickOps X)) := by
  rw [round_eq, after_append, after_append]

/-! ### Which place is picked -/

/-- The place of the greatest score, the first of them. -/
def Best (v : Fin 20000 → EReal) (a : Fin 20000) : Prop := ∀ j, v j < v a ∨ (v j = v a ∧ a ≤ j)

/-- One step of the search keeps the better of two. -/
theorem reducer_spec (a b : EReal × BitVec 32) (i j : ℕ) (hi : i < 20000) (hj : j < 20000)
    (ha : a.2 = BitVec.ofNat 32 i) (hb : b.2 = BitVec.ofNat 32 j) :
    (reducer_argmax_f32_i32 (F := Ideal) a b = a ∨ reducer_argmax_f32_i32 (F := Ideal) a b = b)
      ∧ (b.1 < (reducer_argmax_f32_i32 (F := Ideal) a b).1 ∨ (b.1 = (reducer_argmax_f32_i32 (F := Ideal) a b).1
          ∧ (reducer_argmax_f32_i32 (F := Ideal) a b).2.toNat ≤ j))
      ∧ (a.1 < (reducer_argmax_f32_i32 (F := Ideal) a b).1 ∨ (a.1 = (reducer_argmax_f32_i32 (F := Ideal) a b).1
          ∧ (reducer_argmax_f32_i32 (F := Ideal) a b).2.toNat ≤ i)) := by
  obtain ⟨x, p⟩ := a
  obtain ⟨y, q⟩ := b
  simp only at ha hb
  subst ha hb
  have hslt : IntOp.cmpi .slt (BitVec.ofNat 32 i) (BitVec.ofNat 32 j) = BitVec.ofBool (decide (i < j)) := by
    show BitVec.ofBool (BitVec.slt _ _) = _
    rw [BitVec.slt, toInt_ofNat_of_lt (by omega), toInt_ofNat_of_lt (by omega)]
    simp
  have e : reducer_argmax_f32_i32 (F := Ideal) (x, BitVec.ofNat 32 i) (y, BitVec.ofNat 32 j)
      = if y < x then (x, BitVec.ofNat 32 i) else if x = y ∧ i < j then (x, BitVec.ofNat 32 i) else (y, BitVec.ofNat 32 j) := by
    unfold reducer_argmax_f32_i32
    simp only [hslt]
    simp only [Ideal.cmpf_def, Ideal.cmp, IntOp.ori, IntOp.andi, Scalar.select]
    by_cases h1 : y < x
    · have h1b : ∀ b : BitVec 1, 1#1 ||| b = 1#1 := by decide
      simp [h1, h1b]
    · by_cases h2 : x = y
      · by_cases h3 : i < j <;> simp [h2, h3]
      · simp [h1, h2]
  have hin : (BitVec.ofNat 32 i).toNat = i := by rw [BitVec.toNat_ofNat]; exact Nat.mod_eq_of_lt (by omega)
  have hjn : (BitVec.ofNat 32 j).toNat = j := by rw [BitVec.toNat_ofNat]; exact Nat.mod_eq_of_lt (by omega)
  rw [e]
  by_cases h1 : y < x
  · rw [if_pos h1]
    exact ⟨.inl rfl, .inl h1, .inr ⟨rfl, hin.le⟩⟩
  · rw [if_neg h1]
    by_cases h2 : x = y ∧ i < j
    · rw [if_pos h2]
      exact ⟨.inl rfl, .inr ⟨h2.1.symm, hin.le.trans h2.2.le⟩, .inr ⟨rfl, hin.le⟩⟩
    · rw [if_neg h2]
      refine ⟨.inr rfl, .inr ⟨rfl, hjn.le⟩, ?_⟩
      rcases lt_or_eq_of_le (not_lt.mp h1) with h | h
      · exact .inl h
      · exact .inr ⟨h, hjn.le.trans (not_lt.mp fun hh => h2 ⟨h, hh⟩)⟩

/-- The search over a list of places from a pair that is one of the places' or the least with place zero. -/
theorem search_spec (v : Fin 20000 → EReal) (l : List (Fin 20000)) : ∀ (acc : EReal × BitVec 32) (i : ℕ), i < 20000 →
    acc.2 = BitVec.ofNat 32 i →
    ∃ k : ℕ, k < 20000 ∧ ((l.map fun j => (v j, BitVec.ofNat 32 j.val)).foldl (reducer_argmax_f32_i32 (F := Ideal)) acc).2 = BitVec.ofNat 32 k
      ∧ (((l.map fun j => (v j, BitVec.ofNat 32 j.val)).foldl (reducer_argmax_f32_i32 (F := Ideal)) acc = acc)
        ∨ ∃ j : Fin 20000, j.val = k ∧ ((l.map fun j => (v j, BitVec.ofNat 32 j.val)).foldl (reducer_argmax_f32_i32 (F := Ideal)) acc).1 = v j)
      ∧ (∀ j ∈ l, v j < ((l.map fun j => (v j, BitVec.ofNat 32 j.val)).foldl (reducer_argmax_f32_i32 (F := Ideal)) acc).1
          ∨ (v j = ((l.map fun j => (v j, BitVec.ofNat 32 j.val)).foldl (reducer_argmax_f32_i32 (F := Ideal)) acc).1 ∧ k ≤ j.val))
      ∧ (acc.1 < ((l.map fun j => (v j, BitVec.ofNat 32 j.val)).foldl (reducer_argmax_f32_i32 (F := Ideal)) acc).1
          ∨ (acc.1 = ((l.map fun j => (v j, BitVec.ofNat 32 j.val)).foldl (reducer_argmax_f32_i32 (F := Ideal)) acc).1 ∧ k ≤ i)) := by
  induction l with
  | nil => intro acc i hi ha; exact ⟨i, hi, ha, .inl rfl, by simp, .inr ⟨rfl, le_rfl⟩⟩
  | cons j l ih =>
    intro acc i hi ha
    obtain ⟨h1, h2, h3⟩ := reducer_spec acc (v j, BitVec.ofNat 32 j.val) i j.val hi j.isLt ha rfl
    simp only [List.map_cons, List.foldl_cons]
    generalize hr : reducer_argmax_f32_i32 (F := Ideal) acc (v j, BitVec.ofNat 32 j.val) = r at h1 h2 h3 ⊢
    obtain ⟨i', hi', hri⟩ : ∃ i' : ℕ, i' < 20000 ∧ r.2 = BitVec.ofNat 32 i' := by
      rcases h1 with h | h
      · exact ⟨i, hi, by rw [h, ha]⟩
      · exact ⟨j.val, j.isLt, by rw [h]⟩
    have hn : r.2.toNat = i' := by rw [hri, BitVec.toNat_ofNat]; exact Nat.mod_eq_of_lt (by omega)
    rw [hn] at h2 h3
    obtain ⟨k, hk, hk2, hk3, hk4, hk5⟩ := ih r i' hi' hri
    generalize (l.map fun j => (v j, BitVec.ofNat 32 j.val)).foldl (reducer_argmax_f32_i32 (F := Ideal)) r = w at hk2 hk3 hk4 hk5 ⊢
    have trans : ∀ (x : EReal) (n : ℕ), (x < r.1 ∨ (x = r.1 ∧ i' ≤ n)) → (x < w.1 ∨ (x = w.1 ∧ k ≤ n)) := by
      rintro x n (h | ⟨h, hh⟩) <;> rcases hk5 with g | ⟨g, gg⟩
      · exact .inl (h.trans g)
      · exact .inl (g ▸ h)
      · exact .inl (h ▸ g)
      · exact .inr ⟨h.trans g, gg.trans hh⟩
    refine ⟨k, hk, hk2, ?_, ?_, trans _ _ h3⟩
    · rcases hk3 with h | h
      · rcases h1 with g | g
        · exact .inl (h.trans g)
        · refine .inr ⟨j, ?_, by rw [h, g]⟩
          rw [h, hri] at hk2
          have : j.val = i' := by
            have e := congrArg Prod.snd g
            simp only at e
            rw [hri] at e
            have := congrArg BitVec.toNat e
            rw [BitVec.toNat_ofNat, BitVec.toNat_ofNat, Nat.mod_eq_of_lt (by omega), Nat.mod_eq_of_lt (by omega)] at this
            exact this.symm
          have e2 := congrArg BitVec.toNat hk2
          rw [BitVec.toNat_ofNat, BitVec.toNat_ofNat, Nat.mod_eq_of_lt (by omega), Nat.mod_eq_of_lt (by omega)] at e2
          omega
      · exact .inr h
    · intro q hq
      rcases List.mem_cons.mp hq with rfl | hq
      · exact trans _ _ h2
      · exact hk4 q hq

/-- The pairs that the search runs over are the scores with their places, in some order. -/
theorem fiber_eq (x : FVec Ideal S20000 .f32) (j : S_.Idx) : ∃ l : List (Fin 20000), (∀ a, a ∈ l) ∧
    Host.argReduceFiber x (iotaInDim S20000 32 0) reducesTo_S20000_S_d0 j
      = l.map fun n => ((x (ix1 n) : EReal), BitVec.ofNat 32 n.val) := by
  have hx : ∀ i : S20000.Idx, i = ix1 (i 0) := fun i => by
    funext a
    obtain rfl : a = 0 := Subsingleton.elim _ _
    rfl
  refine ⟨((List.finRange S20000.numel).filter fun n => reducesTo_S20000_S_d0.drop (S20000.rowMajor.symm n) = j).map
    fun n => (S20000.rowMajor.symm n 0 : Fin 20000), fun a => ?_, ?_⟩
  · refine List.mem_map.mpr ⟨S20000.rowMajor (ix1 a), List.mem_filter.mpr ⟨List.mem_finRange _, ?_⟩, ?_⟩
    · exact decide_eq_true (Subsingleton.elim (α := S_.Idx) _ _)
    · rw [Equiv.symm_apply_apply]; rfl
  · unfold Host.argReduceFiber
    refine Eq.trans (List.map_congr_left fun n _ => ?_) List.map_map.symm
    show (_, _) = (_, _)
    exact Prod.ext (congrArg x (hx _)) rfl

/-- Picking finds the best place. -/
theorem pick_spec : ∃ a : Fin 20000, (after (pickOps (F := Ideal)) X (Proc.devRef .tc main_while0b_v32) : IVec S_ 32) = (fun _ => BitVec.ofNat 32 a.val)
    ∧ Best (scoreAt X) a := by
  have e : ∀ j, (after (pickOps (F := Ideal)) X (Proc.devRef .tc main_while0b_v32) : IVec S_ 32) j =
      (Host.argReduce (reducer_argmax_f32_i32 (F := Ideal)) (X (Proc.devRef .tc main_v5_3) : FVec Ideal S20000 .f32) (iotaInDim S20000 32 0)
        (constant S_ .f32 0xFF800000#32 : FVec Ideal S_ .f32) (constantI S_ 32 0#32) reducesTo_S20000_S_d0 h_S_ j).2 := by
    intro j
    simp only [pickOps, List.cons_append, List.nil_append]
    after_reads_simp
    rfl
  have hb : (constant S_ .f32 0xFF800000#32 : FVec Ideal S_ .f32) (Shape.Idx.first h_S_) = (⊥ : EReal) := by
    show Ideal.ofBits .f32 0xFF800000#32 = ⊥
    simp [Ideal.ofBits, Ideal.ieee]
  have hv : ∀ n, ((X (Proc.devRef .tc main_v5_3) : FVec Ideal S20000 .f32) (ix1 n) : EReal) = scoreAt X n := fun _ => rfl
  have key : ∃ a : Fin 20000, (after (pickOps (F := Ideal)) X (Proc.devRef .tc main_while0b_v32) : IVec S_ 32) ix0 = BitVec.ofNat 32 a.val
      ∧ Best (scoreAt X) a := by
    rw [e, Ideal.argReduce_eq_reduce2, Host.reduce2_eq_foldl_fiber]
    obtain ⟨l, hl, hf⟩ := fiber_eq (X (Proc.devRef .tc main_v5_3) : FVec Ideal S20000 .f32) ix0
    rw [hf, hb]
    simp only [hv]
    obtain ⟨k, hk, h2, h3, h4, h5⟩ := search_spec (scoreAt X) l ((⊥ : EReal), 0#32) 0 (by norm_num) rfl
    refine ⟨⟨k, hk⟩, h2, ?_⟩
    generalize (l.map fun j => (scoreAt X j, BitVec.ofNat 32 j.val)).foldl (reducer_argmax_f32_i32 (F := Ideal)) ((⊥ : EReal), 0#32) = w at h2 h3 h4 h5
    have hw : w.1 = scoreAt X ⟨k, hk⟩ := by
      rcases h3 with h | ⟨j, hj, h⟩
      · have hw1 : w.1 = ⊥ := by rw [h]
        rcases h4 ⟨k, hk⟩ (hl _) with g | ⟨g, _⟩
        · rw [hw1] at g; exact absurd g not_lt_bot
        · exact g.symm
      · obtain rfl : j = ⟨k, hk⟩ := Fin.ext hj
        exact h
    intro j
    have := h4 j (hl j)
    rw [hw] at this
    exact this
  obtain ⟨a, ha, hbest⟩ := key
  refine ⟨a, funext fun j => ?_, hbest⟩
  obtain rfl : j = ix0 := Subsingleton.elim (α := S_.Idx) _ _
  exact ha

/-- Picking changes none of the carried buffers. -/
theorem pick_keeps : after (pickOps (F := Ideal)) X (Proc.devRef .tc main_v5_0) = X (Proc.devRef .tc main_v5_0)
    ∧ after (pickOps (F := Ideal)) X (Proc.devRef .tc main_v5_1) = X (Proc.devRef .tc main_v5_1)
    ∧ after (pickOps (F := Ideal)) X (Proc.devRef .tc main_v5_2) = X (Proc.devRef .tc main_v5_2)
    ∧ after (pickOps (F := Ideal)) X (Proc.devRef .tc main_v5_3) = X (Proc.devRef .tc main_v5_3)
    ∧ after (pickOps (F := Ideal)) X (Proc.devRef .tc main_v5_4) = X (Proc.devRef .tc main_v5_4)
    ∧ after (pickOps (F := Ideal)) X (Proc.devRef .tc main_v5_5) = X (Proc.devRef .tc main_v5_5) := by
  simp only [pickOps, List.cons_append, List.nil_append]
  refine ⟨?_, ?_, ?_, ?_, ?_, ?_⟩ <;> after_reads_simp

/-! ### What is fetched -/

/-- Fetching changes none of the carried buffers, nor the place. -/
theorem fetch_keeps : after (fetchOps (F := Ideal)) X (Proc.devRef .tc main_v5_0) = X (Proc.devRef .tc main_v5_0)
    ∧ after (fetchOps (F := Ideal)) X (Proc.devRef .tc main_v5_1) = X (Proc.devRef .tc main_v5_1)
    ∧ after (fetchOps (F := Ideal)) X (Proc.devRef .tc main_v5_2) = X (Proc.devRef .tc main_v5_2)
    ∧ after (fetchOps (F := Ideal)) X (Proc.devRef .tc main_v5_3) = X (Proc.devRef .tc main_v5_3)
    ∧ after (fetchOps (F := Ideal)) X (Proc.devRef .tc main_v5_4) = X (Proc.devRef .tc main_v5_4)
    ∧ after (fetchOps (F := Ideal)) X (Proc.devRef .tc main_v5_5) = X (Proc.devRef .tc main_v5_5)
    ∧ after (fetchOps (F := Ideal)) X (Proc.devRef .tc main_while0b_v32) = X (Proc.devRef .tc main_while0b_v32) := by
  simp only [fetchOps, List.take_succ_cons, List.take_zero]
  refine ⟨?_, ?_, ?_, ?_, ?_, ?_, ?_⟩ <;> after_reads_simp

/-- A place as an index into a vector is itself: it is not negative. -/
theorem place_index (a : Fin 20000) (v z : IVec S_ 32) (hv : v = fun _ => BitVec.ofNat 32 a.val) :
    select (cmpi .slt v (constantI S_ 32 0#32)) z v = fun _ => BitVec.ofNat 32 a.val := by
  funext j
  rw [select_slt_zero_of_nonneg _ _ _ _ (by rw [hv]; show 0 ≤ (BitVec.ofNat 32 a.val).toInt; rw [toInt_ofNat_of_lt (by omega)]; omega), hv]

/-- The place as an index into the scores. -/
abbrev placeOps {F : FTy → Type} [FloatOps F] : List (HloOp τ sig (Elt F)) := List.take 5 body1
/-- The score read there. -/
abbrev scoreOps {F : FTy → Type} [FloatOps F] : List (HloOp τ sig (Elt F)) := List.take 2 (List.drop 5 body1)
/-- The place and the column zero as an index into the boxes. -/
abbrev placesOps {F : FTy → Type} [FloatOps F] : List (HloOp τ sig (Elt F)) := List.take 13 (List.drop 7 body1)
/-- The box read there. -/
abbrev boxOps {F : FTy → Type} [FloatOps F] : List (HloOp τ sig (Elt F)) := List.take 2 (List.drop 20 body1)

/-- The fetching by its four parts. -/
theorem after_fetch : after (fetchOps (F := Ideal)) X = after boxOps (after placesOps (after scoreOps (after placeOps X))) := by
  rw [show (fetchOps : List (HloOp τ sig (Elt Ideal))) = placeOps ++ (scoreOps ++ (placesOps ++ boxOps)) from rfl,
    after_append, after_append, after_append]

variable (a : Fin 20000)

/-- The index into the scores is the place; the other buffers keep. -/
theorem place_spec (ha : (X (Proc.devRef .tc main_while0b_v32) : IVec S_ 32) = fun _ => BitVec.ofNat 32 a.val) :
    (after (placeOps (F := Ideal)) X (Proc.devRef .tc main_while0b_v35) : IVec S_ 32) = (fun _ => BitVec.ofNat 32 a.val)
    ∧ after (placeOps (F := Ideal)) X (Proc.devRef .tc main_v5_0) = X (Proc.devRef .tc main_v5_0)
    ∧ after (placeOps (F := Ideal)) X (Proc.devRef .tc main_v5_3) = X (Proc.devRef .tc main_v5_3)
    ∧ after (placeOps (F := Ideal)) X (Proc.devRef .tc main_while0b_v32) = X (Proc.devRef .tc main_while0b_v32) := by
  simp only [placeOps, List.take_succ_cons, List.take_zero]
  refine ⟨?_, ?_, ?_, ?_⟩ <;> after_reads_simp
  exact place_index a _ _ ha

/-- The index into the boxes is the place and nought; the other buffers keep. -/
theorem places_spec (ha : (X (Proc.devRef .tc main_while0b_v32) : IVec S_ 32) = fun _ => BitVec.ofNat 32 a.val) :
    (after (placesOps (F := Ideal)) X (Proc.devRef .tc main_while0b_v40) : IVec S_ 32) = (fun _ => BitVec.ofNat 32 a.val)
    ∧ (after (placesOps (F := Ideal)) X (Proc.devRef .tc main_while0b_v43) : IVec S_ 32) = (fun _ => 0#32)
    ∧ after (placesOps (F := Ideal)) X (Proc.devRef .tc main_v5_0) = X (Proc.devRef .tc main_v5_0)
    ∧ after (placesOps (F := Ideal)) X (Proc.devRef .tc main_while0b_v37) = X (Proc.devRef .tc main_while0b_v37) := by
  simp only [placesOps, List.drop_succ_cons, List.drop_zero, List.take_succ_cons, List.take_zero]
  refine ⟨?_, ?_, ?_, ?_⟩ <;> after_reads_simp
  · exact place_index a _ _ ha
  · rfl

/-- The score read is the one at the place. -/
theorem score_spec (ha : (X (Proc.devRef .tc main_while0b_v35) : IVec S_ 32) = fun _ => BitVec.ofNat 32 a.val) (k : S_.Idx) :
    ((after (scoreOps (F := Ideal)) X (Proc.devRef .tc main_while0b_v37) : FVec Ideal S_ .f32) k : EReal) = scoreAt X a := by
  simp only [scoreOps, List.drop_succ_cons, List.drop_zero, List.take_succ_cons, List.take_zero]
  after_reads_simp [unaryIndexed_result_read, indexContents_cons, indexContents_empty]
  refine Eq.trans (b := (shapeCast S_ (Host.dynamicSlice S1 (X (Proc.devRef .tc main_v5_3) : FVec Ideal S20000 .f32)
    (fun k => ((![(X (Proc.devRef .tc main_while0b_v35) : IVec S_ 32)] : Fin 1 → IVec S_ 32) k (Shape.Idx.first h_S_)).toInt)
      sliceFits_S20000_S1) shapeCasts_S1_S_ : FVec Ideal S_ .f32) k) ?_ ?_
  · rfl
  clean_types
  pointwise
  have hcl : Host.clampedStart S20000 S1 rfl (fun _ => BitVec.toInt ((X (Proc.devRef .tc main_while0b_v35) : IVec S_ 32) (Shape.Idx.first h_S_))) 0 = a.val := by
    refine Host.clampedStart_of_le _ _ _ a.val ?_ ?_
    · rw [ha]; exact toInt_ofNat_of_lt (by omega)
    · show a.val + 1 ≤ 20000
      omega
  simp only [hcl]
  rfl

/-- The boxes and the place keep. -/
theorem score_keeps : after (scoreOps (F := Ideal)) X (Proc.devRef .tc main_v5_0) = X (Proc.devRef .tc main_v5_0)
    ∧ after (scoreOps (F := Ideal)) X (Proc.devRef .tc main_while0b_v32) = X (Proc.devRef .tc main_while0b_v32) := by
  simp only [scoreOps, List.drop_succ_cons, List.drop_zero, List.take_succ_cons, List.take_zero]
  refine ⟨?_, ?_⟩ <;> after_reads_simp

/-- The corners read are those at the place. -/
theorem box_spec (ha : (X (Proc.devRef .tc main_while0b_v40) : IVec S_ 32) = fun _ => BitVec.ofNat 32 a.val)
    (h0 : (X (Proc.devRef .tc main_while0b_v43) : IVec S_ 32) = fun _ => 0#32) (k : Fin 4) :
    ((after (boxOps (F := Ideal)) X (Proc.devRef .tc main_while0b_v45) : FVec Ideal S4 .f32) (ix1 k) : EReal) = cornerAt X a k := by
  simp only [boxOps, List.drop_succ_cons, List.drop_zero, List.take_succ_cons, List.take_zero]
  after_reads_simp [unaryIndexed_result_read, indexContents_cons, indexContents_empty]
  refine Eq.trans (b := (shapeCast S4 (Host.dynamicSlice S1x4 (X (Proc.devRef .tc main_v5_0) : FVec Ideal S20000x4 .f32)
    (fun k => ((![(X (Proc.devRef .tc main_while0b_v40) : IVec S_ 32), (X (Proc.devRef .tc main_while0b_v43) : IVec S_ 32)] : Fin 2 → IVec S_ 32) k (Shape.Idx.first h_S_)).toInt)
      sliceFits_S20000x4_S1x4) shapeCasts_S1x4_S4 : FVec Ideal S4 .f32) (ix1 k)) ?_ ?_
  · rfl
  clean_types
  pointwise
  have hcl : Host.clampedStart S20000x4 S1x4 rfl (fun k => BitVec.toInt ((![(X (Proc.devRef .tc main_while0b_v40) : IVec S_ 32), (X (Proc.devRef .tc main_while0b_v43) : IVec S_ 32)] : Fin 2 → IVec S_ 32) k (Shape.Idx.first h_S_))) 0 = a.val := by
    refine Host.clampedStart_of_le _ _ _ a.val ?_ ?_
    · show ((X (Proc.devRef .tc main_while0b_v40) : IVec S_ 32) (Shape.Idx.first h_S_)).toInt = _
      rw [ha]; exact toInt_ofNat_of_lt (by omega)
    · show a.val + 1 ≤ 20000
      omega
  have hcl1 : Host.clampedStart S20000x4 S1x4 rfl (fun k => BitVec.toInt ((![(X (Proc.devRef .tc main_while0b_v40) : IVec S_ 32), (X (Proc.devRef .tc main_while0b_v43) : IVec S_ 32)] : Fin 2 → IVec S_ 32) k (Shape.Idx.first h_S_))) 1 = 0 := by
    refine Host.clampedStart_of_le _ _ _ 0 ?_ ?_
    · show ((X (Proc.devRef .tc main_while0b_v43) : IVec S_ 32) (Shape.Idx.first h_S_)).toInt = _
      rw [h0]; rfl
    · show 0 + 4 ≤ 4
      omega
  simp only [hcl, hcl1, Nat.zero_add]
  rfl

/-- The score read keeps. -/
theorem box_keeps : after (boxOps (F := Ideal)) X (Proc.devRef .tc main_while0b_v37) = X (Proc.devRef .tc main_while0b_v37) := by
  simp only [boxOps, List.drop_succ_cons, List.drop_zero, List.take_succ_cons, List.take_zero]
  after_reads_simp

/-- The score at the place and the corners there. -/
theorem fetch_spec (ha : (X (Proc.devRef .tc main_while0b_v32) : IVec S_ 32) = fun _ => BitVec.ofNat 32 a.val) :
    (∀ k, ((after (fetchOps (F := Ideal)) X (Proc.devRef .tc main_while0b_v37) : FVec Ideal S_ .f32) k : EReal) = scoreAt X a)
    ∧ ∀ k, ((after (fetchOps (F := Ideal)) X (Proc.devRef .tc main_while0b_v45) : FVec Ideal S4 .f32) (ix1 k) : EReal) = cornerAt X a k := by
  rw [after_fetch]
  obtain ⟨p, p0, p3, p32⟩ := place_spec X a ha
  generalize after (placeOps (F := Ideal)) X = Y at p p0 p3 p32 ⊢
  have hs := score_spec Y a p
  obtain ⟨q0, q32⟩ := score_keeps Y
  generalize after (scoreOps (F := Ideal)) Y = Z at hs q0 q32 ⊢
  obtain ⟨r, r', r0, r37⟩ := places_spec Z a (by rw [q32, p32]; exact ha)
  generalize after (placesOps (F := Ideal)) Z = W at r r' r0 r37 ⊢
  refine ⟨fun k => ?_, fun k => ?_⟩
  · rw [box_keeps, r37, hs]
    unfold scoreAt
    rw [p3]
  · rw [box_spec W a r r']
    unfold cornerAt
    rw [r0, q0, p0]

/-! ### What is dropped, and the rows that are written -/

/-- Dropping changes neither the corners nor the places. -/
theorem drop_keeps : after (dropOps (F := Ideal)) X (Proc.devRef .tc main_v5_0) = X (Proc.devRef .tc main_v5_0)
    ∧ after (dropOps (F := Ideal)) X (Proc.devRef .tc main_v5_1) = X (Proc.devRef .tc main_v5_1) := by
  simp only [dropOps, List.cons_append, List.nil_append, List.drop_succ_cons, List.drop_zero]
  refine ⟨?_, ?_⟩ <;> after_reads_simp

/-- A box that the taken one drops, and the taken one itself, get the lowest score. -/
theorem drop_score (ha : (X (Proc.devRef .tc main_while0b_v32) : IVec S_ 32) = fun _ => BitVec.ofNat 32 a.val)
    (hi : ∀ j : Fin 20000, (X (Proc.devRef .tc main_v5_1) : IVec S20000 32) (ix1 j) = BitVec.ofNat 32 j.val)
    (f : Fin 4 → EReal) (hf : ∀ k, ((X (Proc.devRef .tc main_while0b_v45) : FVec Ideal S4 .f32) (ix1 k) : EReal) = f k) (j : Fin 20000) :
    scoreAt (after (dropOps (F := Ideal)) X) j
      = open Classical in if drops (boxWith 0 f) (boxWith 0 (cornerAt X j)) ∨ j = a then low else scoreAt X j := by
  have e : scoreAt (after (dropOps (F := Ideal)) X) j
      = if IntOp.ori (Ideal.cmp .ogt (iou (boxWith 0 f) (boxWith 0 (cornerAt X j))) limit)
          (IntOp.cmpi .eq (BitVec.ofNat 32 j.val) (BitVec.ofNat 32 a.val)) = 1#1 then low else scoreAt X j := by
    unfold scoreAt
    simp only [dropOps, List.cons_append, List.nil_append, List.drop_succ_cons, List.drop_zero]
    after_reads_simp
    simp -implicitDefEqProofs only [StableHlo.TRef.toBuf, StableHlo.TRef.ofBuf, cast_cast, cast_eq]
    clean_types
    simp only [id]
    pointwise
    simp only [hf, hi, ha]
    unfold iou inter Box.area boxWith cornerAt limit eps low
    simp only [max_comm _ (0 : EReal)]
    rfl
  rw [e]
  have hj : IntOp.cmpi .eq (BitVec.ofNat 32 j.val) (BitVec.ofNat 32 a.val) = BitVec.ofBool (decide (j = a)) := by
    show BitVec.ofBool (decide (BitVec.ofNat 32 j.val = BitVec.ofNat 32 a.val)) = _
    congr 1
    refine decide_eq_decide.mpr ⟨fun h => Fin.ext ?_, fun h => by rw [h]⟩
    have := congrArg BitVec.toNat h
    rwa [BitVec.toNat_ofNat, BitVec.toNat_ofNat, Nat.mod_eq_of_lt (by omega), Nat.mod_eq_of_lt (by omega)] at this
  rw [hj]
  unfold drops
  simp only [Ideal.cmp, IntOp.ori]
  generalize iou _ _ = q
  by_cases h1 : limit < q <;> by_cases h2 : j = a <;> simp [h1, h2]

/-- The row of the round gets the score, the others stay. -/
theorem drop_keptScore (t : ℕ) (ht : t < 1000) (hc : (X (Proc.devRef .tc main_v5_2) : IVec S_ 32) = fun _ => BitVec.ofNat 32 t)
    (s : EReal) (hs : ∀ k, ((X (Proc.devRef .tc main_while0b_v37) : FVec Ideal S_ .f32) k : EReal) = s) (r : Fin 1000) :
    keptScore (after (dropOps (F := Ideal)) X) r = if r.val = t then s else keptScore X r := by
  unfold keptScore
  simp only [dropOps, List.cons_append, List.nil_append, List.drop_succ_cons, List.drop_zero]
  after_reads_simp [unaryIndexed_result_read, binaryIndexed_result_read, indexContents_tref_cons, indexContents_tref_empty, indexContents_cons, indexContents_empty, TRef.ofBuf_toBuf]
  try simp -implicitDefEqProofs only [StableHlo.TRef.toBuf, StableHlo.TRef.ofBuf, cast_cast, cast_eq]
  clean_types
  simp only [id]
  pointwise
  have hcl : Host.clampedStart S1000 S1 rfl (fun _ => BitVec.toInt ((X (Proc.devRef .tc main_v5_2) : IVec S_ 32) (Shape.Idx.first h_S_))) 0 = t := by
    refine Host.clampedStart_of_le _ _ _ t ?_ ?_
    · rw [hc]; exact toInt_ofNat_of_lt (by omega)
    · show t + 1 ≤ 1000
      omega
  rw [hcl]
  by_cases h : r.val = t
  · rw [dif_pos (by omega), if_pos h]; exact hs _
  · rw [dif_neg (by omega), if_neg h]

/-- The row of the round gets the corners, the others stay. -/
theorem drop_keptCorner (t : ℕ) (ht : t < 1000) (hc : (X (Proc.devRef .tc main_v5_2) : IVec S_ 32) = fun _ => BitVec.ofNat 32 t)
    (f : Fin 4 → EReal) (hf : ∀ k, ((X (Proc.devRef .tc main_while0b_v45) : FVec Ideal S4 .f32) (ix1 k) : EReal) = f k) (r : Fin 1000) (k : Fin 4) :
    keptCorner (after (dropOps (F := Ideal)) X) r k = if r.val = t then f k else keptCorner X r k := by
  unfold keptCorner
  simp only [dropOps, List.cons_append, List.nil_append, List.drop_succ_cons, List.drop_zero]
  after_reads_simp [unaryIndexed_result_read, binaryIndexed_result_read, indexContents_tref_cons, indexContents_tref_empty, indexContents_cons, indexContents_empty, TRef.ofBuf_toBuf]
  try simp -implicitDefEqProofs only [StableHlo.TRef.toBuf, StableHlo.TRef.ofBuf, cast_cast, cast_eq]
  clean_types
  simp only [id]
  pointwise
  have hcl : Host.clampedStart S1000x4 S1x4 rfl (fun k => BitVec.toInt ((![(X (Proc.devRef .tc main_v5_2) : IVec S_ 32), constantI S_ 32 0#32] : Fin 2 → IVec S_ 32) k (Shape.Idx.first h_S_))) 0 = t := by
    refine Host.clampedStart_of_le _ _ _ t ?_ ?_
    · show ((X (Proc.devRef .tc main_v5_2) : IVec S_ 32) (Shape.Idx.first h_S_)).toInt = _
      rw [hc]; exact toInt_ofNat_of_lt (by omega)
    · show t + 1 ≤ 1000
      omega
  have hcl1 : Host.clampedStart S1000x4 S1x4 rfl (fun k => BitVec.toInt ((![(X (Proc.devRef .tc main_v5_2) : IVec S_ 32), constantI S_ 32 0#32] : Fin 2 → IVec S_ 32) k (Shape.Idx.first h_S_))) 1 = 0 := by
    refine Host.clampedStart_of_le _ _ _ 0 rfl ?_
    show 0 + 4 ≤ 4
    omega
  simp only [hcl, hcl1]
  by_cases h : r.val = t
  · rw [dif_pos (by omega), if_pos h]; exact hf k
  · rw [dif_neg (by omega), if_neg h]

/-! ### One round -/

/-- What a round does, the `t`-th: it takes the first box of the greatest score left, writes its score and corners to row `t`,
    and gives the lowest score to it and to the boxes that it drops. -/
theorem round_spec (t : ℕ) (ht : t < 1000) (hc : (X (Proc.devRef .tc main_v5_2) : IVec S_ 32) = fun _ => BitVec.ofNat 32 t)
    (hi : ∀ j : Fin 20000, (X (Proc.devRef .tc main_v5_1) : IVec S20000 32) (ix1 j) = BitVec.ofNat 32 j.val) :
    ∃ a : Fin 20000, Best (scoreAt X) a
      ∧ (∀ j, scoreAt (after (round (F := Ideal)) X) j
          = open Classical in if drops (boxWith 0 (cornerAt X a)) (boxWith 0 (cornerAt X j)) ∨ j = a then low else scoreAt X j)
      ∧ (∀ r, keptScore (after (round (F := Ideal)) X) r = if r.val = t then scoreAt X a else keptScore X r)
      ∧ (∀ r k, keptCorner (after (round (F := Ideal)) X) r k = if r.val = t then cornerAt X a k else keptCorner X r k)
      ∧ cornerAt (after (round (F := Ideal)) X) = cornerAt X
      ∧ after (round (F := Ideal)) X (Proc.devRef .tc main_v5_1) = X (Proc.devRef .tc main_v5_1) := by
  rw [after_round]
  obtain ⟨a, ha, hb⟩ := pick_spec X
  obtain ⟨p0, p1, p2, p3, p4, p5⟩ := pick_keeps X
  generalize after (pickOps (F := Ideal)) X = Y at ha p0 p1 p2 p3 p4 p5 ⊢
  obtain ⟨hs, hf⟩ := fetch_spec Y a ha
  obtain ⟨q0, q1, q2, q3, q4, q5, q6⟩ := fetch_keeps Y
  generalize after (fetchOps (F := Ideal)) Y = Z at hs hf q0 q1 q2 q3 q4 q5 q6 ⊢
  obtain ⟨r0, r1⟩ := drop_keeps Z
  have eS : scoreAt Z = scoreAt X := by unfold scoreAt; rw [q3, p3]
  have eSY : scoreAt Y = scoreAt X := by unfold scoreAt; rw [p3]
  have eC : cornerAt Z = cornerAt X := by unfold cornerAt; rw [q0, p0]
  have eCY : cornerAt Y = cornerAt X := by unfold cornerAt; rw [p0]
  have eK : keptScore Z = keptScore X := by unfold keptScore; rw [q4, p4]
  have eKC : keptCorner Z = keptCorner X := by unfold keptCorner; rw [q5, p5]
  rw [eSY] at hs
  rw [eCY] at hf
  have hcZ : (Z (Proc.devRef .tc main_v5_2) : IVec S_ 32) = fun _ => BitVec.ofNat 32 t := by rw [q2, p2]; exact hc
  refine ⟨a, hb, fun j => ?_, fun r => ?_, fun r k => ?_, ?_, ?_⟩
  · rw [drop_score Z a (by rw [q6]; exact ha) (fun j => by rw [q1, p1]; exact hi j) _ hf j, eC, eS]
  · rw [drop_keptScore Z t ht hcZ _ hs r, eK]
  · rw [drop_keptCorner Z t ht hcZ _ hf r k, eKC]
  · rw [← eC]; unfold cornerAt; rw [r0]
  · rw [r1, q1, p1]

end Cert.Proof.R

end
-- ==== Proof.RefValue.lean ====
/-
  What the reference program returns: the table of the suppression on its boxes in the order of their scores.
-/
module

public import proofs.«01_k».proof.Proof.RefStep
public import proofs.«01_k».proof.Proof.Source

@[expose] public section

set_option maxRecDepth 16384

noncomputable section

namespace Cert.Proof.R

open Cert.ReferenceIdeal Cert.ReferenceIdeal.Gen
open Idealize.ShloMosaic Idealize.ShloMosaic.TcCoe Idealize.ShloMosaic.StableHlo

/-- Whether a box drops another does not depend on their scores. -/
theorem drops_boxWith (s s' u u' : EReal) (f g : Fin 4 → EReal) :
    drops (boxWith s f) (boxWith u g) ↔ drops (boxWith s' f) (boxWith u' g) := by
  unfold drops iou inter Box.area boxWith
  exact Iff.rfl

section Loop

variable {b : ℕ → Box} {pos : Fin 20000 → ℕ}

/-- The state after `k` rounds: a box is left if its score still is one that counts; the rows written so far hold the
    boxes taken, or a score that does not count where none was left. -/
structure Inv (src b : ℕ → Box) (pos : Fin 20000 → ℕ) (k : ℕ) (X : Valuation τ sig (Elt Ideal)) : Prop where
  left : ∀ j, half ≤ scoreAt X j ↔ Left b 20480 k (pos j)
  score : ∀ j, half ≤ scoreAt X j → scoreAt X j = (src j.val).s
  corner : ∀ j s, boxWith s (cornerAt X j) = { src j.val with s := s }
  some : ∀ r : Fin 1000, r.val < k → (∃ p, Left b 20480 r.val p) → boxWith (keptScore X r) (keptCorner X r) = b (first b 20480 r.val)
  none : ∀ r : Fin 1000, r.val < k → (∀ p, ¬ Left b 20480 r.val p) → keptScore X r < half
  places : ∀ j : Fin 20000, (X (Proc.devRef .tc main_v5_1) : IVec S20000 32) (ix1 j) = BitVec.ofNat 32 j.val

/-- One round keeps it. -/
theorem Inv.step {src : ℕ → Box} (ho : Order src b pos) {k : ℕ} (hk : k < 1000) {X : Valuation τ sig (Elt Ideal)} (h : Inv src b pos k X)
    (hc : (X (Proc.devRef .tc main_v5_2) : IVec S_ 32) = fun _ => BitVec.ofNat 32 k) :
    Inv src b pos (k + 1) (after (round (F := Ideal)) X) := by
  classical
  obtain ⟨a, hb, hS, hK, hKC, hC, hI⟩ := round_spec X k hk hc h.places
  have hd : ∀ j s u, drops (boxWith s (cornerAt X a)) (boxWith u (cornerAt X j)) ↔ drops (b (pos a)) (b (pos j)) := by
    intro j s u
    rw [drops_boxWith s (src a.val).s u (src j.val).s, h.corner, h.corner, ho.box, ho.box]
  have hS' : ∀ j, half ≤ scoreAt (after (round (F := Ideal)) X) j ↔ half ≤ scoreAt X j ∧ ¬ (drops (b (pos a)) (b (pos j)) ∨ j = a) := by
    intro j
    rw [hS, hd]
    by_cases hh : drops (b (pos a)) (b (pos j)) ∨ j = a
    · rw [if_pos hh]
      exact ⟨fun hl => absurd hl (not_le.mpr low_lt_half), fun hl => absurd hh hl.2⟩
    · rw [if_neg hh]
      exact ⟨fun hl => ⟨hl, hh⟩, fun hl => hl.1⟩
  have hplace : ∀ p, Left b 20480 k p → ∃ j, pos j = p ∧ half ≤ scoreAt X j := by
    intro p hp
    obtain ⟨j, rfl⟩ := ho.onto p hp.zero.1 hp.zero.2
    exact ⟨j, rfl, (h.left j).mpr hp⟩
  have hfirst : ∀ p, Left b 20480 k p → half ≤ scoreAt X a ∧ first b 20480 k = pos a := by
    intro p hp
    obtain ⟨j, _, hj⟩ := hplace p hp
    have hga : half ≤ scoreAt X a := by
      rcases hb j with g | ⟨g, _⟩
      · exact hj.trans g.le
      · exact hj.trans g.le
    refine ⟨hga, first_eq ((h.left a).mp hga) fun q hq => ?_⟩
    obtain ⟨i, rfl, hi⟩ := hplace q hq
    refine ho.le a i ?_
    rw [← h.score a hga, ← h.score i hi]
    exact hb i
  constructor
  · intro j
    rw [hS', h.left, left_succ]
    constructor
    · rintro ⟨hl, hn⟩
      rw [(hfirst _ hl).2]
      exact ⟨hl, fun e => hn (.inr (ho.inj e)), fun e => hn (.inl e)⟩
    · rintro ⟨hl, h1, h2⟩
      rw [(hfirst _ hl).2] at h1 h2
      refine ⟨hl, ?_⟩
      rintro (e | e)
      · exact h2 e
      · exact h1 (by rw [e])
  · intro j hj
    have h2 := (hS' j).mp hj
    rw [hS, if_neg (by rw [hd]; exact h2.2)]
    exact h.score j h2.1
  · intro j s
    rw [hC]; exact h.corner j s
  · intro r hr hp
    rw [hK]
    by_cases e : r.val = k
    · rw [if_pos e, show keptCorner (after (round (F := Ideal)) X) r = cornerAt X a from funext fun i => by rw [hKC, if_pos e]]
      obtain ⟨p, hp⟩ := hp
      rw [e] at hp ⊢
      obtain ⟨hga, hf⟩ := hfirst p hp
      rw [hf, h.score a hga, h.corner, ho.box]
    · rw [if_neg e, show keptCorner (after (round (F := Ideal)) X) r = keptCorner X r from funext fun i => by rw [hKC, if_neg e]]
      exact h.some r (by omega) hp
  · intro r hr hp
    rw [hK]
    by_cases e : r.val = k
    · rw [if_pos e]
      refine lt_of_not_ge fun hga => ?_
      rw [e] at hp
      exact hp _ ((h.left a).mp hga)
    · rw [if_neg e]
      exact h.none r (by omega) hp
  · intro j
    rw [hI]; exact h.places j

end Loop

/-! ### Before the loop and after it -/

section Ends

variable (X : Valuation τ sig (Elt Ideal))

/-- Before the loop the scores are the joined list's. -/
theorem pre_score (j : Fin 20000) : scoreAt (after (pre0 (F := Ideal)) X) j
    = srcScore (X (Proc.devRef .tc main_arg1)) (X (Proc.devRef .tc main_arg3)) j.val := by
  have h1 : upto (pre0 (F := Ideal)) X 1 (Proc.devRef .tc main_arg1) = X (Proc.devRef .tc main_arg1) := by
    unfold upto
    simp only [List.take_succ_cons, List.take_zero]
    after_reads_simp
  have h3 : upto (pre0 (F := Ideal)) X 1 (Proc.devRef .tc main_arg3) = X (Proc.devRef .tc main_arg3) := by
    unfold upto
    simp only [List.take_succ_cons, List.take_zero]
    after_reads_simp
  unfold scoreAt srcScore
  after_reads_simp
  try simp -implicitDefEqProofs only [StableHlo.TRef.toBuf, StableHlo.TRef.ofBuf, cast_cast, cast_eq]
  clean_types
  simp only [id]
  pointwise
  rw [h1, h3]

/-- Before the loop the corners are the joined list's. -/
theorem pre_corner (j : Fin 20000) (k : Fin 4) : cornerAt (after (pre0 (F := Ideal)) X) j k
    = srcCorner (X (Proc.devRef .tc main_arg0)) (X (Proc.devRef .tc main_arg2)) j.val k := by
  unfold cornerAt srcCorner
  after_reads_simp
  try simp -implicitDefEqProofs only [StableHlo.TRef.toBuf, StableHlo.TRef.ofBuf, cast_cast, cast_eq]
  clean_types
  simp only [id]
  pointwise
  rw [upto_zero]

/-- Before the loop the places are counted. -/
theorem pre_places (j : Fin 20000) : (after (pre0 (F := Ideal)) X (Proc.devRef .tc main_v5_1) : IVec S20000 32) (ix1 j) = BitVec.ofNat 32 j.val := by
  after_reads_simp
  rfl

/-- The operations that find out which rows count. -/
abbrev maskOps {F : FTy → Type} [FloatOps F] : List (HloOp τ sig (Elt F)) := List.take 28 post0
/-- The operations that join the columns and set the other rows to zero. -/
abbrev joinOps {F : FTy → Type} [FloatOps F] : List (HloOp τ sig (Elt F)) := List.drop 28 post0 ++ post1

/-- The lines after the loop in two parts. -/
theorem after_post : after (post0 (F := Ideal) ++ post1) X = after joinOps (after maskOps X) := by
  rw [show (post0 ++ post1 : List (HloOp τ sig (Elt Ideal))) = maskOps ++ joinOps from rfl, after_append]

/-- The score above which a row is taken for real: below one half. -/
theorem real_lt_half : Ideal.ofBits .f32 0xF0C9F2CA#32 < half := by
  rw [half_eq]
  have : Ideal.ofBits .f32 0xF0C9F2CA#32 = ((-(13234890 * 2 ^ 75) : ℝ) : EReal) := by simp [Ideal.ofBits, Ideal.ieee]
  rw [this, EReal.coe_lt_coe_iff]; norm_num

/-- The conjunction of four bits is set when all four are. -/
theorem all_four : ∀ a b c d : Bool, (IntOp.andi (IntOp.andi (BitVec.ofBool a) (BitVec.ofBool b)) (IntOp.andi (BitVec.ofBool c) (BitVec.ofBool d)) = 1#1)
    ↔ (a = true ∧ b = true) ∧ c = true ∧ d = true := by decide

/-- A row counts if its score is at least one half and both its sides are at least forty. -/
theorem mask_spec (r : Fin 1000) : (after (maskOps (F := Ideal)) X (Proc.devRef .tc main_v26) : IVec S1000 1) (ix1 r) = 1#1
    ↔ half ≤ keptScore X r ∧ forty ≤ keptCorner X r 2 - keptCorner X r 0 ∧ forty ≤ keptCorner X r 3 - keptCorner X r 1 := by
  have e : (after (maskOps (F := Ideal)) X (Proc.devRef .tc main_v26) : IVec S1000 1) (ix1 r) =
      IntOp.andi (IntOp.andi (BitVec.ofBool (decide (Ideal.ofBits .f32 0xF0C9F2CA#32 < keptScore X r)))
        (BitVec.ofBool (decide (half ≤ keptScore X r))))
      (IntOp.andi (BitVec.ofBool (decide (forty ≤ keptCorner X r 2 - keptCorner X r 0)))
        (BitVec.ofBool (decide (forty ≤ keptCorner X r 3 - keptCorner X r 1)))) := by
    simp only [maskOps, List.take_succ_cons, List.take_zero]
    after_reads_simp
    clean_types
    pointwise
    rfl
  rw [e]
  rw [all_four, decide_eq_true_eq, decide_eq_true_eq, decide_eq_true_eq, decide_eq_true_eq]
  exact ⟨fun h => ⟨h.1.2, h.2⟩, fun h => ⟨⟨real_lt_half.trans_le h.1, h.1⟩, h.2⟩⟩

/-- The three pieces of a row. -/
theorem mask_pieces (r : Fin 1000) :
    ((after (maskOps (F := Ideal)) X (Proc.devRef .tc main_v27) : FVec Ideal S1000x1 .f32) (ix2 r 0) : EReal) = (0 : EReal)
    ∧ ((after (maskOps (F := Ideal)) X (Proc.devRef .tc main_v28) : FVec Ideal S1000x1 .f32) (ix2 r 0) : EReal) = keptScore X r
    ∧ keptCorner (after (maskOps (F := Ideal)) X) r = keptCorner X r := by
  unfold keptCorner keptScore
  simp only [maskOps, List.take_succ_cons, List.take_zero]
  refine ⟨?_, ?_, ?_⟩
  · after_reads_simp
    clean_types
    pointwise
  · after_reads_simp
    clean_types
    pointwise
  · funext k
    after_reads_simp

/-- The row's pieces joined, or zeros. -/
theorem join_spec (r : Fin 1000) (k : Fin 6) :
    ((after (joinOps (F := Ideal)) X (Proc.devRef .tc main_v31) : FVec Ideal S1000x6 .f32) (ix2 r k) : EReal)
      = if (X (Proc.devRef .tc main_v26) : IVec S1000 1) (ix1 r) = 1#1 then
          (![(X (Proc.devRef .tc main_v27) : FVec Ideal S1000x1 .f32) (ix2 r 0), (X (Proc.devRef .tc main_v28) : FVec Ideal S1000x1 .f32) (ix2 r 0),
            keptCorner X r 0, keptCorner X r 1, keptCorner X r 2, keptCorner X r 3] : Fin 6 → EReal) k else 0 := by
  unfold keptCorner
  simp only [joinOps, post0, List.cons_append, List.nil_append, List.drop_succ_cons, List.drop_zero]
  after_reads_simp
  try simp -implicitDefEqProofs only [StableHlo.TRef.toBuf, StableHlo.TRef.ofBuf, cast_cast, cast_eq]
  clean_types
  simp only [id]
  pointwise
  rw [upto_zero]
  show (if _ = 1#1 then _ else _ : EReal) = _
  refine if_congr Iff.rfl ?_ rfl
  fin_cases k <;> rfl

/-- What is returned, row by row. -/
theorem post_spec (r : Fin 1000) (k : Fin 6) :
    ((after (post0 (F := Ideal) ++ post1) X (Proc.devRef .tc main_v31) : FVec Ideal S1000x6 .f32) (ix2 r k) : EReal)
      = open Classical in if half ≤ keptScore X r then rowOf (boxWith (keptScore X r) (keptCorner X r)) k else 0 := by
  classical
  rw [after_post, join_spec]
  obtain ⟨h27, h28, hC⟩ := mask_pieces X r
  rw [h27, h28, hC]
  have hm := mask_spec X r
  unfold rowOf boxWith
  by_cases h1 : half ≤ keptScore X r
  · rw [if_pos h1]
    by_cases h2 : forty ≤ keptCorner X r 2 - keptCorner X r 0 ∧ forty ≤ keptCorner X r 3 - keptCorner X r 1
    · rw [if_pos (hm.mpr ⟨h1, h2⟩), if_pos h2]
    · rw [if_neg fun h => h2 (hm.mp h).2, if_neg h2]
      rfl
  · rw [if_neg h1, if_neg fun h => h1 (hm.mp h).1]

end Ends

/-! ### The whole -/

section Whole

variable (m : (ℓ : Loc nD τ sig) → Buf (Elt Ideal) ℓ) (c : Dev nD)

/-- The boxes that the program is given, joined. -/
def src : ℕ → Box := source (m (c, Proc.devRef .tc main_arg0)) (m (c, Proc.devRef .tc main_arg1)) (m (c, Proc.devRef .tc main_arg2)) (m (c, Proc.devRef .tc main_arg3))

/-- The state after `k` rounds is as it should be. -/
theorem inv_at {b : ℕ → Box} {pos : Fin 20000 → ℕ} (ho : Order (src m c) b pos) (k : ℕ) : k ≤ 1000 → Inv (src m c) b pos k (at_ m k c) := by
  induction k with
  | zero =>
    intro _
    rw [at_zero]
    have hs : ∀ j, scoreAt (after (pre0 (F := Ideal)) (launchContents m c)) j = (src m c j.val).s := fun j => pre_score _ j
    refine ⟨fun j => ?_, fun j _ => hs j, fun j s => ?_, fun r hr => absurd hr (Nat.not_lt_zero _), fun r hr => absurd hr (Nat.not_lt_zero _), pre_places _⟩
    · rw [hs, ← ho.box j]
      exact ⟨fun h => ⟨ho.lt j, h⟩, fun h => h.2⟩
    · unfold boxWith
      rw [pre_corner, pre_corner, pre_corner, pre_corner]
      rfl
  | succ k ih =>
    intro hk
    rw [at_succ]
    refine (ih (by omega)).step ho (by omega) ?_
    rw [counter]
    funext _
    show Scf.iv 0#32 1#32 k = _
    unfold Scf.iv
    simp

/-- The reference returns the table of its boxes in order. -/
theorem final_eq {b : ℕ → Box} {pos : Fin 20000 → ℕ} (ho : Order (src m c) b pos) (r : Fin 1000) (k : Fin 6) :
    ((final m c (Proc.devRef .tc main_v31) : FVec Ideal S1000x6 .f32) (ix2 r k) : EReal) = table b 20480 r.val k := by
  classical
  have h := inv_at m c ho 1000 le_rfl
  have hK : ∀ r, keptScore (after (cond0 (F := Ideal)) (at_ m 1000 c)) r = keptScore (at_ m 1000 c) r := by
    intro r
    unfold keptScore
    after_reads_simp
  have hKC : ∀ r, keptCorner (after (cond0 (F := Ideal)) (at_ m 1000 c)) r = keptCorner (at_ m 1000 c) r := by
    intro r
    funext k
    unfold keptCorner
    after_reads_simp
  unfold final
  rw [post_spec, hK, hKC]
  generalize at_ m 1000 c = X at h
  by_cases hp : ∃ p, Left b 20480 r.val p
  · obtain ⟨p, hp⟩ := hp
    have e := h.some r r.isLt ⟨p, hp⟩
    rw [table_some hp, e, if_pos]
    have e1 : keptScore X r = (b (first b 20480 r.val)).s := congrArg Box.s e
    rw [e1]
    exact (left_first hp).zero.2
  · have hn : ∀ p, ¬ Left b 20480 r.val p := fun p h => hp ⟨p, h⟩
    rw [table_none hn, if_neg (not_le.mpr (h.none r r.isLt hn))]
    rfl

end Whole

end Cert.Proof.R

end
-- ==== Proof.Tame.lean ====
/-
  What the precondition says of the boxes: every one that scores enough is tame.
-/
module

public import proofs.«01_k».proof.Pre_boxes_suppress_themselves
public import proofs.«01_k».proof.Proof.Source
public import Idealize.ShloMosaic.Lib.Pointwise

@[expose] public section

set_option maxRecDepth 16384

noncomputable section

namespace Cert.Proof

open Idealize.ShloMosaic Cert.Pre_boxes_suppress_themselves

/-- A one-bit conjunction is set when both sides are. -/
theorem andi_one (a b : BitVec 1) : IntOp.andi a b = 1#1 ↔ a = 1#1 ∧ b = 1#1 := by
  revert a b; decide

/-- A one-bit disjunction is set when either side is. -/
theorem ori_one (a b : BitVec 1) : IntOp.ori a b = 1#1 ↔ a = 1#1 ∨ b = 1#1 := by
  revert a b; decide

/-- A decision's bit is set when the statement holds. -/
theorem decide_one (p : Prop) [Decidable p] : BitVec.ofBool (decide p) = 1#1 ↔ p := by
  by_cases h : p <;> simp [h]

/-- The conjunction of four bits is set when each of them is. -/
theorem fold_four (f : Fin 4 → BitVec 1) : Finset.fold IntOp.andi (1#1) f Finset.univ = 1#1 ↔ ∀ k, f k = 1#1 := by
  have e : (Finset.univ : Finset (Fin 4)) = {0, 1, 2, 3} := by decide
  rw [e, Finset.fold_insert (by decide), Finset.fold_insert (by decide), Finset.fold_insert (by decide),
    Finset.fold_singleton]
  simp only [andi_one, Fin.forall_fin_succ, Fin.forall_fin_zero]
  simp

/-- What is asked of one box: it does not score enough, or its corners are within the bounds and it is wide, high and
    large enough. -/
def Asked (s : EReal) (c : Fin 4 → EReal) : Prop :=
  s < half ∨ (((∀ k, max (c k) (-(c k)) ≤ high) ∧ 0 < c 2 - c 0) ∧ 0 < c 3 - c 1) ∧
    eps ≤ (c 2 - c 0) * (c 3 - c 1)

/-- A box of which this holds is tame if it scores enough. -/
theorem Asked.tame {s : EReal} {c : Fin 4 → EReal} (h : Asked s c) (hs : half ≤ s) : Tame ⟨s, c 0, c 1, c 2, c 3⟩ := by
  rcases h with h | ⟨⟨⟨hn, hw⟩, hh⟩, hb⟩
  · exact absurd h (not_lt.mpr hs)
  · have b : ∀ k, c k ≤ high ∧ low ≤ c k := fun k => by
      have hk := max_le_iff.mp (hn k)
      refine ⟨hk.1, ?_⟩
      rw [low_eq_neg]
      exact EReal.neg_le.mp hk.2
    exact ⟨b 0, b 1, b 2, b 3, hw, hh, hb⟩

variable [Cert.Pre_boxes_suppress_themselves.Facts]

/-- The precondition at one place: what is asked, of the box there in each of the two lists. -/
theorem asked (A0 : Corners) (A1 : Scores) (A2 : Corners) (A3 : Scores)
    (h : Cert.Pre_boxes_suppress_themselves.fn (F := Ideal) A0 A1 A2 A3 = fun _ => 1#1) (i : Fin 10000) :
    Asked (A1 (ix1 i)) (fun k => A0 (ix2 i k)) ∧ Asked (A3 (ix1 i)) (fun k => A2 (ix2 i k)) := by
  suffices hf : Cert.Pre_boxes_suppress_themselves.fn (F := Ideal) A0 A1 A2 A3 (ix1 i) = 1#1 ↔
      Asked (A1 (ix1 i)) (fun k => A0 (ix2 i k)) ∧ Asked (A3 (ix1 i)) (fun k => A2 (ix2 i k)) from
    hf.mp (congrFun h (ix1 i))
  unfold Cert.Pre_boxes_suppress_themselves.fn fn_part1 fn_part2
  dsimp only
  pointwise
  simp only [andi_one, ori_one, fold_four, decide_one]
  have near (A : Corners) : (∀ k : Fin 4, BitVec.ofBool (decide ((FloatOps.absf (A (ix2 i k)) : EReal) ≤ high)) = 1#1) ↔
      ∀ k : Fin 4, (max (A (ix2 i k)) (-(A (ix2 i k) : EReal)) : EReal) ≤ high := forall_congr' fun k => decide_one _
  exact and_congr (or_congr Iff.rfl (and_congr (and_congr (and_congr (near A0) Iff.rfl) Iff.rfl) Iff.rfl))
    (or_congr Iff.rfl (and_congr (and_congr (and_congr (near A2) Iff.rfl) Iff.rfl) Iff.rfl))

/-- Under the precondition every box of the joined list that scores enough is tame. -/
theorem tame_of_pre (A0 : Corners) (A1 : Scores) (A2 : Corners) (A3 : Scores)
    (h : Cert.Pre_boxes_suppress_themselves.fn (F := Ideal) A0 A1 A2 A3 = fun _ => 1#1) (j : ℕ) (hj : j < 20000)
    (hs : half ≤ (source A0 A1 A2 A3 j).s) : Tame (source A0 A1 A2 A3 j) := by
  by_cases h1 : j < 10000
  · have e : source A0 A1 A2 A3 j = ⟨A1 (ix1 ⟨j, h1⟩), A0 (ix2 ⟨j, h1⟩ 0), A0 (ix2 ⟨j, h1⟩ 1), A0 (ix2 ⟨j, h1⟩ 2),
        A0 (ix2 ⟨j, h1⟩ 3)⟩ := by
      simp only [source, srcScore, srcCorner, dif_pos h1]
    rw [e] at hs ⊢
    exact (asked A0 A1 A2 A3 h ⟨j, h1⟩).1.tame hs
  · have h2 : j - 10000 < 10000 := by omega
    have e : source A0 A1 A2 A3 j = ⟨A3 (ix1 ⟨j - 10000, h2⟩), A2 (ix2 ⟨j - 10000, h2⟩ 0), A2 (ix2 ⟨j - 10000, h2⟩ 1),
        A2 (ix2 ⟨j - 10000, h2⟩ 2), A2 (ix2 ⟨j - 10000, h2⟩ 3)⟩ := by
      simp only [source, srcScore, srcCorner, dif_neg h1, dif_pos hj]
    rw [e] at hs ⊢
    exact (asked A0 A1 A2 A3 h ⟨j - 10000, h2⟩).2.tame hs

end Cert.Proof

end
-- ==== Proof.Equal.lean ====
/-
  The two programs' results are equal: both are the table of the suppression on the boxes in the kernel's order.
-/
module

public import proofs.«01_k».proof.Defs
public import proofs.«01_k».proof.Proof.KernelValue
public import proofs.«01_k».proof.Proof.RefValue
public import proofs.«01_k».proof.Proof.Tame

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts

/-- The joined boxes depend on the four arrays alone. -/
theorem source_congr {A0 B0 : Corners} {A1 B1 : Scores} {A2 B2 : Corners} {A3 B3 : Scores} (h0 : B0 = A0) (h1 : B1 = A1)
    (h2 : B2 = A2) (h3 : B3 = A3) : source B0 B1 B2 B3 = source A0 A1 A2 A3 := by
  subst h0 h1 h2 h3; rfl

/-- From memories that hold the same four arrays, under the precondition, the reference's result is the kernel's. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hs : R.src m' c = K.src m c)
    (ht : ∀ j, j < 20000 → half ≤ (K.src m c j).s → Tame (K.src m c j)) :
    (R.final m' c (Proc.devRef .tc Cert.ReferenceIdeal.main_v31) : FVec Ideal Cert.ReferenceIdeal.S1000x6 .f32) = K.answer m c := by
  have ho := K.order m c Cert.KernelIdeal.Gen.t0_0
  rw [← hs] at ho
  funext j
  have hj : j = ix2 (j 0) (j 1) := by
    funext a
    match a with
    | ⟨0, _⟩ => rfl
    | ⟨1, _⟩ => rfl
  rw [hj]
  exact (R.final_eq m' c ho (j 0) (j 1)).trans (K.out_eq m c ht (j 0) (j 1)).symm

/-- Under the precondition both programs return the same, and leave their arguments. -/
theorem algebraic [Cert.Pre_boxes_suppress_themselves.Facts] :
    Cert.algebraic_KernelIdeal_ReferenceIdeal_pre_boxes_suppress_themselves := by
  intro m g m' g' hp hm
  refine ⟨K.answer m, K.run_answer m g, (θ_run _ _ _).mono (fun r h c => ⟨(h.1 c).1.trans ?_, (h.1 c).2⟩) (R.run_all m' g')⟩
  exact equal m m' c (source_congr (hm c).1 (hm c).2.1 (hm c).2.2.1 (hm c).2.2.2)
    fun j hj h => tame_of_pre _ _ _ _ (hp c) j hj h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.Pre_boxes_suppress_themselves
public import proofs.«01_k».proof.Proof.Run
public import proofs.«01_k».proof.Proof.Machine.Run
public import proofs.«01_k».proof.Proof.RefRun
public import proofs.«01_k».proof.Proof.Equal

@[expose] public section

noncomputable section

namespace Cert.Proof

open Idealize.ShloMosaic Idealize.SL.Sem

attribute [local instance] Cert.Kernel.Gen.facts Cert.KernelIdeal.Gen.facts Cert.ReferenceIdeal.Gen.facts
  Cert.Pre_boxes_suppress_themselves.Gen.facts

/-- Over the extended reals every run of the kernel leaves its arguments and ends with every counter at zero. -/
theorem frame_kernelIdeal : Cert.quiescent_KernelIdeal := fun m ρ _ => Cert.Proof.K.frame (F := Ideal) m ρ

/-- The same of the kernel over the machine's floats. -/
theorem frame_kernel : Cert.quiescent_Kernel := fun m ρ _ => Cert.Proof.M.frame (F := Bits) m ρ

/-- Every run of the reference leaves its arguments and ends with every counter at zero. -/
theorem frame_referenceIdeal : Cert.quiescent_ReferenceIdeal := fun m ρ _ =>
  (θ_run Cert.ReferenceIdeal.defs _ _).mono (fun _ h => ⟨fun c => (h.1 c).2, h.2⟩) (Cert.Proof.R.run_all (F := Ideal) m ρ)

/-- The certificate: both programs' frames, with and without the precondition, and the equality of their results. -/
theorem claim : Cert.Claim := ⟨Cert.Kernel.Gen.facts, Cert.KernelIdeal.Gen.facts, Cert.ReferenceIdeal.Gen.facts,
  Cert.Pre_boxes_suppress_themselves.Gen.facts, frame_kernel, frame_kernelIdeal,
  fun m ρ _ => frame_kernelIdeal m ρ trivial, frame_referenceIdeal, fun m ρ _ => frame_referenceIdeal m ρ trivial, trivial,
  algebraic⟩

end Cert.Proof

end
